-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 768]⟩ ⟨2, ![8192, 768]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x512 : Shape := ⟨2, ![768, 512]⟩
abbrev S512x768 : Shape := ⟨2, ![512, 768]⟩
abbrev S768x2048 : Shape := ⟨2, ![768, 2048]⟩
abbrev S_ : Shape := ⟨0, ![]⟩
abbrev S768x128 : Shape := ⟨2, ![768, 128]⟩
abbrev S15x32x768 : Shape := ⟨3, ![15, 32, 768]⟩
abbrev S32x768 : Shape := ⟨2, ![32, 768]⟩
abbrev S15 : Shape := ⟨1, ![15]⟩
abbrev S512x512 : Shape := ⟨2, ![512, 512]⟩
abbrev S512x128 : Shape := ⟨2, ![512, 128]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S256x512 : Shape := ⟨2, ![256, 512]⟩
abbrev S1x32x768 : Shape := ⟨3, ![1, 32, 768]⟩
abbrev S1 : Shape := ⟨1, ![1]⟩

abbrev nBuf : Space → Nat
  | .hbm => 36
  | .vmem => 10
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S512x768, .bf16⟩
  | .hbm, ⟨3, _⟩ => ⟨S768x2048, .bf16⟩
  | .hbm, ⟨4, _⟩ => ⟨S768x2048, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S768x128, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S768x128, .bf16⟩
  | .hbm, ⟨33, _⟩ => ⟨S512x768, .bf16⟩
  | .hbm, ⟨34, _⟩ => ⟨S512x768, .f32⟩
  | .hbm, ⟨35, _⟩ => ⟨S2x256x768, .f32⟩
  | .local _ .vmem, ⟨0, _⟩ => ⟨S512x768, .bf16⟩
  | .local _ .vmem, ⟨1, _⟩ => ⟨S768x512, .bf16⟩
  | .local _ .vmem, ⟨2, _⟩ => ⟨S512x768, .bf16⟩
  | .local _ .vmem, ⟨3, _⟩ => ⟨S768x128, .bf16⟩
  | .local _ .vmem, ⟨4, _⟩ => ⟨S768x128, .bf16⟩
  | .local _ .vmem, ⟨5, _⟩ => ⟨S512x768, .f32⟩
  | .local _ .vmem, ⟨6, _⟩ => ⟨S15x32x768, .bf16⟩
  | .local _ .vmem, ⟨7, _⟩ => ⟨S15x32x768, .bf16⟩
  | .local _ .vmem, ⟨8, _⟩ => ⟨S32x768, .bf16⟩
  | .local _ .vmem, ⟨9, _⟩ => ⟨S15x32x768, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_c_4 : Ref sig .tc := ⟨.hbm, 17, rfl⟩
abbrev main_v8 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_c_8 : Ref sig .tc := ⟨.hbm, 26, rfl⟩
abbrev main_v13 : Ref sig .tc := ⟨.hbm, 27, rfl⟩
abbrev main_c_9 : Ref sig .tc := ⟨.hbm, 28, rfl⟩
abbrev main_v14 : Ref sig .tc := ⟨.hbm, 29, rfl⟩
abbrev main_v15 : Ref sig .tc := ⟨.hbm, 30, rfl⟩
abbrev main_c_10 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_215 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v478 : BitVec 32 := Scalar.addi v2 c1_i32_215
  let c16_i32_216 : BitVec 32 := 16#32
  let c0_i32_217 : BitVec 32 := 0#32
  let v479 : BitVec 1 := Scalar.cmpi .eq c16_i32_216 c0_i32_217
  let c1_i32_218 : BitVec 32 := 1#32
  let v480 : BitVec 32 := Scalar.select v479 c1_i32_218 c16_i32_216
  let v481 : BitVec 32 := Scalar.remsi v478 v480
  let c0_i32_220 : BitVec 32 := 0#32
  let v483 : BitVec 1 := Scalar.cmpi .slt v481 c0_i32_220
  let c0_i32_221 : BitVec 32 := 0#32
  let v484 : BitVec 1 := Scalar.cmpi .slt v480 c0_i32_221
  let v485 : BitVec 1 := Scalar.xori v483 v484
  let c0_i32_219 : BitVec 32 := 0#32
  let v482 : BitVec 1 := Scalar.cmpi .ne v481 c0_i32_219
  let v486 : BitVec 1 := Scalar.andi v485 v482
  let v487 : BitVec 32 := Scalar.addi v481 v480
  let v488 : BitVec 32 := Scalar.select v486 v487 v481
  let c32_i32 : BitVec 32 := 32#32
  let v489 : BitVec 32 := Scalar.muli v488 c32_i32
  let v490 : Index := Scalar.indexCast v489
  let c0_222 : Index := 0#32
  ![v490.toNat, 0]
def k0_dev16 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_215 : BitVec 32 := 1#32
  let v478 : BitVec 32 := Scalar.addi v2 c1_i32_215
  let c16_i32_216 : BitVec 32 := 16#32
  let c0_i32_217 : BitVec 32 := 0#32
  let v479 : BitVec 1 := Scalar.cmpi .eq c16_i32_216 c0_i32_217
  let c1_i32_218 : BitVec 32 := 1#32
  let v480 : BitVec 32 := Scalar.select v479 c1_i32_218 c16_i32_216
  let v481 : BitVec 32 := Scalar.remsi v478 v480
  let c0_i32_220 : BitVec 32 := 0#32
  let v483 : BitVec 1 := Scalar.cmpi .slt v481 c0_i32_220
  let c0_i32_221 : BitVec 32 := 0#32
  let v484 : BitVec 1 := Scalar.cmpi .slt v480 c0_i32_221
  let v485 : BitVec 1 := Scalar.xori v483 v484
  let c0_i32_219 : BitVec 32 := 0#32
  let v482 : BitVec 1 := Scalar.cmpi .ne v481 c0_i32_219
  let v486 : BitVec 1 := Scalar.andi v485 v482
  let v487 : BitVec 32 := Scalar.addi v481 v480
  let v488 : BitVec 32 := Scalar.select v486 v487 v481
  let c1_i32_230 : BitVec 32 := 1#32
  let v497 : BitVec 32 := Scalar.muli v488 c1_i32_230
  let v498 : BitVec 32 := Scalar.addi c0_i32_231 v497
  v498.toNat
def k0_dev17 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_236 : BitVec 32 := 2#32
  let v507 : BitVec 32 := Scalar.addi v2 c2_i32_236
  let c16_i32_237 : BitVec 32 := 16#32
  let c0_i32_238 : BitVec 32 := 0#32
  let v508 : BitVec 1 := Scalar.cmpi .eq c16_i32_237 c0_i32_238
  let c1_i32_239 : BitVec 32 := 1#32
  let v509 : BitVec 32 := Scalar.select v508 c1_i32_239 c16_i32_237
  let v510 : BitVec 32 := Scalar.remsi v507 v509
  let c0_i32_241 : BitVec 32 := 0#32
  let v512 : BitVec 1 := Scalar.cmpi .slt v510 c0_i32_241
  let c0_i32_242 : BitVec 32 := 0#32
  let v513 : BitVec 1 := Scalar.cmpi .slt v509 c0_i32_242
  let v514 : BitVec 1 := Scalar.xori v512 v513
  let c0_i32_240 : BitVec 32 := 0#32
  let v511 : BitVec 1 := Scalar.cmpi .ne v510 c0_i32_240
  let v515 : BitVec 1 := Scalar.andi v514 v511
  let v516 : BitVec 32 := Scalar.addi v510 v509
  let v517 : BitVec 32 := Scalar.select v515 v516 v510
  let c1_i32_251 : BitVec 32 := 1#32
  let v526 : BitVec 32 := Scalar.muli v517 c1_i32_251
  let v527 : BitVec 32 := Scalar.addi c0_i32_252 v526
  v527.toNat
def k0_dev18 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_257 : BitVec 32 := 3#32
  let v536 : BitVec 32 := Scalar.addi v2 c3_i32_257
  let c16_i32_258 : BitVec 32 := 16#32
  let c0_i32_259 : BitVec 32 := 0#32
  let v537 : BitVec 1 := Scalar.cmpi .eq c16_i32_258 c0_i32_259
  let c1_i32_260 : BitVec 32 := 1#32
  let v538 : BitVec 32 := Scalar.select v537 c1_i32_260 c16_i32_258
  let v539 : BitVec 32 := Scalar.remsi v536 v538
  let c0_i32_262 : BitVec 32 := 0#32
  let v541 : BitVec 1 := Scalar.cmpi .slt v539 c0_i32_262
  let c0_i32_263 : BitVec 32 := 0#32
  let v542 : BitVec 1 := Scalar.cmpi .slt v538 c0_i32_263
  let v543 : BitVec 1 := Scalar.xori v541 v542
  let c0_i32_261 : BitVec 32 := 0#32
  let v540 : BitVec 1 := Scalar.cmpi .ne v539 c0_i32_261
  let v544 : BitVec 1 := Scalar.andi v543 v540
  let v545 : BitVec 32 := Scalar.addi v539 v538
  let v546 : BitVec 32 := Scalar.select v544 v545 v539
  let c1_i32_272 : BitVec 32 := 1#32
  let v555 : BitVec 32 := Scalar.muli v546 c1_i32_272
  let v556 : BitVec 32 := Scalar.addi c0_i32_273 v555
  v556.toNat
def k0_dev19 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_278 : BitVec 32 := 4#32
  let v565 : BitVec 32 := Scalar.addi v2 c4_i32_278
  let c16_i32_279 : BitVec 32 := 16#32
  let c0_i32_280 : BitVec 32 := 0#32
  let v566 : BitVec 1 := Scalar.cmpi .eq c16_i32_279 c0_i32_280
  let c1_i32_281 : BitVec 32 := 1#32
  let v567 : BitVec 32 := Scalar.select v566 c1_i32_281 c16_i32_279
  let v568 : BitVec 32 := Scalar.remsi v565 v567
  let c0_i32_283 : BitVec 32 := 0#32
  let v570 : BitVec 1 := Scalar.cmpi .slt v568 c0_i32_283
  let c0_i32_284 : BitVec 32 := 0#32
  let v571 : BitVec 1 := Scalar.cmpi .slt v567 c0_i32_284
  let v572 : BitVec 1 := Scalar.xori v570 v571
  let c0_i32_282 : BitVec 32 := 0#32
  let v569 : BitVec 1 := Scalar.cmpi .ne v568 c0_i32_282
  let v573 : BitVec 1 := Scalar.andi v572 v569
  let v574 : BitVec 32 := Scalar.addi v568 v567
  let v575 : BitVec 32 := Scalar.select v573 v574 v568
  let c1_i32_293 : BitVec 32 := 1#32
  let v584 : BitVec 32 := Scalar.muli v575 c1_i32_293
  let v585 : BitVec 32 := Scalar.addi c0_i32_294 v584
  v585.toNat
def k0_dev20 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_299 : BitVec 32 := 5#32
  let v594 : BitVec 32 := Scalar.addi v2 c5_i32_299
  let c16_i32_300 : BitVec 32 := 16#32
  let c0_i32_301 : BitVec 32 := 0#32
  let v595 : BitVec 1 := Scalar.cmpi .eq c16_i32_300 c0_i32_301
  let c1_i32_302 : BitVec 32 := 1#32
  let v596 : BitVec 32 := Scalar.select v595 c1_i32_302 c16_i32_300
  let v597 : BitVec 32 := Scalar.remsi v594 v596
  let c0_i32_304 : BitVec 32 := 0#32
  let v599 : BitVec 1 := Scalar.cmpi .slt v597 c0_i32_304
  let c0_i32_305 : BitVec 32 := 0#32
  let v600 : BitVec 1 := Scalar.cmpi .slt v596 c0_i32_305
  let v601 : BitVec 1 := Scalar.xori v599 v600
  let c0_i32_303 : BitVec 32 := 0#32
  let v598 : BitVec 1 := Scalar.cmpi .ne v597 c0_i32_303
  let v602 : BitVec 1 := Scalar.andi v601 v598
  let v603 : BitVec 32 := Scalar.addi v597 v596
  let v604 : BitVec 32 := Scalar.select v602 v603 v597
  let c1_i32_314 : BitVec 32 := 1#32
  let v613 : BitVec 32 := Scalar.muli v604 c1_i32_314
  let v614 : BitVec 32 := Scalar.addi c0_i32_315 v613
  v614.toNat
def k0_dev21 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_320 : BitVec 32 := 6#32
  let v623 : BitVec 32 := Scalar.addi v2 c6_i32_320
  let c16_i32_321 : BitVec 32 := 16#32
  let c0_i32_322 : BitVec 32 := 0#32
  let v624 : BitVec 1 := Scalar.cmpi .eq c16_i32_321 c0_i32_322
  let c1_i32_323 : BitVec 32 := 1#32
  let v625 : BitVec 32 := Scalar.select v624 c1_i32_323 c16_i32_321
  let v626 : BitVec 32 := Scalar.remsi v623 v625
  let c0_i32_325 : BitVec 32 := 0#32
  let v628 : BitVec 1 := Scalar.cmpi .slt v626 c0_i32_325
  let c0_i32_326 : BitVec 32 := 0#32
  let v629 : BitVec 1 := Scalar.cmpi .slt v625 c0_i32_326
  let v630 : BitVec 1 := Scalar.xori v628 v629
  let c0_i32_324 : BitVec 32 := 0#32
  let v627 : BitVec 1 := Scalar.cmpi .ne v626 c0_i32_324
  let v631 : BitVec 1 := Scalar.andi v630 v627
  let v632 : BitVec 32 := Scalar.addi v626 v625
  let v633 : BitVec 32 := Scalar.select v631 v632 v626
  let c1_i32_335 : BitVec 32 := 1#32
  let v642 : BitVec 32 := Scalar.muli v633 c1_i32_335
  let v643 : BitVec 32 := Scalar.addi c0_i32_336 v642
  v643.toNat
def k0_dev22 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_341 : BitVec 32 := 7#32
  let v652 : BitVec 32 := Scalar.addi v2 c7_i32_341
  let c16_i32_342 : BitVec 32 := 16#32
  let c0_i32_343 : BitVec 32 := 0#32
  let v653 : BitVec 1 := Scalar.cmpi .eq c16_i32_342 c0_i32_343
  let c1_i32_344 : BitVec 32 := 1#32
  let v654 : BitVec 32 := Scalar.select v653 c1_i32_344 c16_i32_342
  let v655 : BitVec 32 := Scalar.remsi v652 v654
  let c0_i32_346 : BitVec 32 := 0#32
  let v657 : BitVec 1 := Scalar.cmpi .slt v655 c0_i32_346
  let c0_i32_347 : BitVec 32 := 0#32
  let v658 : BitVec 1 := Scalar.cmpi .slt v654 c0_i32_347
  let v659 : BitVec 1 := Scalar.xori v657 v658
  let c0_i32_345 : BitVec 32 := 0#32
  let v656 : BitVec 1 := Scalar.cmpi .ne v655 c0_i32_345
  let v660 : BitVec 1 := Scalar.andi v659 v656
  let v661 : BitVec 32 := Scalar.addi v655 v654
  let v662 : BitVec 32 := Scalar.select v660 v661 v655
  let c1_i32_356 : BitVec 32 := 1#32
  let v671 : BitVec 32 := Scalar.muli v662 c1_i32_356
  let v672 : BitVec 32 := Scalar.addi c0_i32_357 v671
  v672.toNat
def k0_dev23 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_362 : BitVec 32 := 8#32
  let v681 : BitVec 32 := Scalar.addi v2 c8_i32_362
  let c16_i32_363 : BitVec 32 := 16#32
  let c0_i32_364 : BitVec 32 := 0#32
  let v682 : BitVec 1 := Scalar.cmpi .eq c16_i32_363 c0_i32_364
  let c1_i32_365 : BitVec 32 := 1#32
  let v683 : BitVec 32 := Scalar.select v682 c1_i32_365 c16_i32_363
  let v684 : BitVec 32 := Scalar.remsi v681 v683
  let c0_i32_367 : BitVec 32 := 0#32
  let v686 : BitVec 1 := Scalar.cmpi .slt v684 c0_i32_367
  let c0_i32_368 : BitVec 32 := 0#32
  let v687 : BitVec 1 := Scalar.cmpi .slt v683 c0_i32_368
  let v688 : BitVec 1 := Scalar.xori v686 v687
  let c0_i32_366 : BitVec 32 := 0#32
  let v685 : BitVec 1 := Scalar.cmpi .ne v684 c0_i32_366
  let v689 : BitVec 1 := Scalar.andi v688 v685
  let v690 : BitVec 32 := Scalar.addi v684 v683
  let v691 : BitVec 32 := Scalar.select v689 v690 v684
  let c1_i32_377 : BitVec 32 := 1#32
  let v700 : BitVec 32 := Scalar.muli v691 c1_i32_377
  let v701 : BitVec 32 := Scalar.addi c0_i32_378 v700
  v701.toNat
def k0_dev24 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_383 : BitVec 32 := 9#32
  let v710 : BitVec 32 := Scalar.addi v2 c9_i32_383
  let c16_i32_384 : BitVec 32 := 16#32
  let c0_i32_385 : BitVec 32 := 0#32
  let v711 : BitVec 1 := Scalar.cmpi .eq c16_i32_384 c0_i32_385
  let c1_i32_386 : BitVec 32 := 1#32
  let v712 : BitVec 32 := Scalar.select v711 c1_i32_386 c16_i32_384
  let v713 : BitVec 32 := Scalar.remsi v710 v712
  let c0_i32_388 : BitVec 32 := 0#32
  let v715 : BitVec 1 := Scalar.cmpi .slt v713 c0_i32_388
  let c0_i32_389 : BitVec 32 := 0#32
  let v716 : BitVec 1 := Scalar.cmpi .slt v712 c0_i32_389
  let v717 : BitVec 1 := Scalar.xori v715 v716
  let c0_i32_387 : BitVec 32 := 0#32
  let v714 : BitVec 1 := Scalar.cmpi .ne v713 c0_i32_387
  let v718 : BitVec 1 := Scalar.andi v717 v714
  let v719 : BitVec 32 := Scalar.addi v713 v712
  let v720 : BitVec 32 := Scalar.select v718 v719 v713
  let c1_i32_398 : BitVec 32 := 1#32
  let v729 : BitVec 32 := Scalar.muli v720 c1_i32_398
  let v730 : BitVec 32 := Scalar.addi c0_i32_399 v729
  v730.toNat
def k0_dev25 (d0 : Dev nD) : Nat :=
  let c0_i32_420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_404 : BitVec 32 := 10#32
  let v739 : BitVec 32 := Scalar.addi v2 c10_i32_404
  let c16_i32_405 : BitVec 32 := 16#32
  let c0_i32_406 : BitVec 32 := 0#32
  let v740 : BitVec 1 := Scalar.cmpi .eq c16_i32_405 c0_i32_406
  let c1_i32_407 : BitVec 32 := 1#32
  let v741 : BitVec 32 := Scalar.select v740 c1_i32_407 c16_i32_405
  let v742 : BitVec 32 := Scalar.remsi v739 v741
  let c0_i32_409 : BitVec 32 := 0#32
  let v744 : BitVec 1 := Scalar.cmpi .slt v742 c0_i32_409
  let c0_i32_410 : BitVec 32 := 0#32
  let v745 : BitVec 1 := Scalar.cmpi .slt v741 c0_i32_410
  let v746 : BitVec 1 := Scalar.xori v744 v745
  let c0_i32_408 : BitVec 32 := 0#32
  let v743 : BitVec 1 := Scalar.cmpi .ne v742 c0_i32_408
  let v747 : BitVec 1 := Scalar.andi v746 v743
  let v748 : BitVec 32 := Scalar.addi v742 v741
  let v749 : BitVec 32 := Scalar.select v747 v748 v742
  let c1_i32_419 : BitVec 32 := 1#32
  let v758 : BitVec 32 := Scalar.muli v749 c1_i32_419
  let v759 : BitVec 32 := Scalar.addi c0_i32_420 v758
  v759.toNat
def k0_dev26 (d0 : Dev nD) : Nat :=
  let c0_i32_441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_425 : BitVec 32 := 11#32
  let v768 : BitVec 32 := Scalar.addi v2 c11_i32_425
  let c16_i32_426 : BitVec 32 := 16#32
  let c0_i32_427 : BitVec 32 := 0#32
  let v769 : BitVec 1 := Scalar.cmpi .eq c16_i32_426 c0_i32_427
  let c1_i32_428 : BitVec 32 := 1#32
  let v770 : BitVec 32 := Scalar.select v769 c1_i32_428 c16_i32_426
  let v771 : BitVec 32 := Scalar.remsi v768 v770
  let c0_i32_430 : BitVec 32 := 0#32
  let v773 : BitVec 1 := Scalar.cmpi .slt v771 c0_i32_430
  let c0_i32_431 : BitVec 32 := 0#32
  let v774 : BitVec 1 := Scalar.cmpi .slt v770 c0_i32_431
  let v775 : BitVec 1 := Scalar.xori v773 v774
  let c0_i32_429 : BitVec 32 := 0#32
  let v772 : BitVec 1 := Scalar.cmpi .ne v771 c0_i32_429
  let v776 : BitVec 1 := Scalar.andi v775 v772
  let v777 : BitVec 32 := Scalar.addi v771 v770
  let v778 : BitVec 32 := Scalar.select v776 v777 v771
  let c1_i32_440 : BitVec 32 := 1#32
  let v787 : BitVec 32 := Scalar.muli v778 c1_i32_440
  let v788 : BitVec 32 := Scalar.addi c0_i32_441 v787
  v788.toNat
def k0_dev27 (d0 : Dev nD) : Nat :=
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_446 : BitVec 32 := 12#32
  let v797 : BitVec 32 := Scalar.addi v2 c12_i32_446
  let c16_i32_447 : BitVec 32 := 16#32
  let c0_i32_448 : BitVec 32 := 0#32
  let v798 : BitVec 1 := Scalar.cmpi .eq c16_i32_447 c0_i32_448
  let c1_i32_449 : BitVec 32 := 1#32
  let v799 : BitVec 32 := Scalar.select v798 c1_i32_449 c16_i32_447
  let v800 : BitVec 32 := Scalar.remsi v797 v799
  let c0_i32_451 : BitVec 32 := 0#32
  let v802 : BitVec 1 := Scalar.cmpi .slt v800 c0_i32_451
  let c0_i32_452 : BitVec 32 := 0#32
  let v803 : BitVec 1 := Scalar.cmpi .slt v799 c0_i32_452
  let v804 : BitVec 1 := Scalar.xori v802 v803
  let c0_i32_450 : BitVec 32 := 0#32
  let v801 : BitVec 1 := Scalar.cmpi .ne v800 c0_i32_450
  let v805 : BitVec 1 := Scalar.andi v804 v801
  let v806 : BitVec 32 := Scalar.addi v800 v799
  let v807 : BitVec 32 := Scalar.select v805 v806 v800
  let c1_i32_461 : BitVec 32 := 1#32
  let v816 : BitVec 32 := Scalar.muli v807 c1_i32_461
  let v817 : BitVec 32 := Scalar.addi c0_i32_462 v816
  v817.toNat
def k0_dev28 (d0 : Dev nD) : Nat :=
  let c0_i32_483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_467 : BitVec 32 := 13#32
  let v826 : BitVec 32 := Scalar.addi v2 c13_i32_467
  let c16_i32_468 : BitVec 32 := 16#32
  let c0_i32_469 : BitVec 32 := 0#32
  let v827 : BitVec 1 := Scalar.cmpi .eq c16_i32_468 c0_i32_469
  let c1_i32_470 : BitVec 32 := 1#32
  let v828 : BitVec 32 := Scalar.select v827 c1_i32_470 c16_i32_468
  let v829 : BitVec 32 := Scalar.remsi v826 v828
  let c0_i32_472 : BitVec 32 := 0#32
  let v831 : BitVec 1 := Scalar.cmpi .slt v829 c0_i32_472
  let c0_i32_473 : BitVec 32 := 0#32
  let v832 : BitVec 1 := Scalar.cmpi .slt v828 c0_i32_473
  let v833 : BitVec 1 := Scalar.xori v831 v832
  let c0_i32_471 : BitVec 32 := 0#32
  let v830 : BitVec 1 := Scalar.cmpi .ne v829 c0_i32_471
  let v834 : BitVec 1 := Scalar.andi v833 v830
  let v835 : BitVec 32 := Scalar.addi v829 v828
  let v836 : BitVec 32 := Scalar.select v834 v835 v829
  let c1_i32_482 : BitVec 32 := 1#32
  let v845 : BitVec 32 := Scalar.muli v836 c1_i32_482
  let v846 : BitVec 32 := Scalar.addi c0_i32_483 v845
  v846.toNat
def k0_dev29 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_488 : BitVec 32 := 14#32
  let v855 : BitVec 32 := Scalar.addi v2 c14_i32_488
  let c16_i32_489 : BitVec 32 := 16#32
  let c0_i32_490 : BitVec 32 := 0#32
  let v856 : BitVec 1 := Scalar.cmpi .eq c16_i32_489 c0_i32_490
  let c1_i32_491 : BitVec 32 := 1#32
  let v857 : BitVec 32 := Scalar.select v856 c1_i32_491 c16_i32_489
  let v858 : BitVec 32 := Scalar.remsi v855 v857
  let c0_i32_493 : BitVec 32 := 0#32
  let v860 : BitVec 1 := Scalar.cmpi .slt v858 c0_i32_493
  let c0_i32_494 : BitVec 32 := 0#32
  let v861 : BitVec 1 := Scalar.cmpi .slt v857 c0_i32_494
  let v862 : BitVec 1 := Scalar.xori v860 v861
  let c0_i32_492 : BitVec 32 := 0#32
  let v859 : BitVec 1 := Scalar.cmpi .ne v858 c0_i32_492
  let v863 : BitVec 1 := Scalar.andi v862 v859
  let v864 : BitVec 32 := Scalar.addi v858 v857
  let v865 : BitVec 32 := Scalar.select v863 v864 v858
  let c1_i32_503 : BitVec 32 := 1#32
  let v874 : BitVec 32 := Scalar.muli v865 c1_i32_503
  let v875 : BitVec 32 := Scalar.addi c0_i32_504 v874
  v875.toNat
def k0_dev30 (d0 : Dev nD) : Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_509 : BitVec 32 := 15#32
  let v884 : BitVec 32 := Scalar.addi v2 c15_i32_509
  let c16_i32_510 : BitVec 32 := 16#32
  let c0_i32_511 : BitVec 32 := 0#32
  let v885 : BitVec 1 := Scalar.cmpi .eq c16_i32_510 c0_i32_511
  let c1_i32_512 : BitVec 32 := 1#32
  let v886 : BitVec 32 := Scalar.select v885 c1_i32_512 c16_i32_510
  let v887 : BitVec 32 := Scalar.remsi v884 v886
  let c0_i32_514 : BitVec 32 := 0#32
  let v889 : BitVec 1 := Scalar.cmpi .slt v887 c0_i32_514
  let c0_i32_515 : BitVec 32 := 0#32
  let v890 : BitVec 1 := Scalar.cmpi .slt v886 c0_i32_515
  let v891 : BitVec 1 := Scalar.xori v889 v890
  let c0_i32_513 : BitVec 32 := 0#32
  let v888 : BitVec 1 := Scalar.cmpi .ne v887 c0_i32_513
  let v892 : BitVec 1 := Scalar.andi v891 v888
  let v893 : BitVec 32 := Scalar.addi v887 v886
  let v894 : BitVec 32 := Scalar.select v892 v893 v887
  let c1_i32_524 : BitVec 32 := 1#32
  let v903 : BitVec 32 := Scalar.muli v894 c1_i32_524
  let v904 : BitVec 32 := Scalar.addi c0_i32_525 v903
  v904.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_530 : BitVec 32 := 32#32
  let v913 : BitVec 32 := Scalar.muli v2 c32_i32_530
  let v914 : Index := Scalar.indexCast v913
  let c0_531 : Index := 0#32
  ![v914.toNat, 0]
def k0_dev31 (d0 : Dev nD) : Nat :=
  let c0_i32_740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_729 : BitVec 32 := 1#32
  let v1101 : BitVec 32 := Scalar.addi v2 c1_i32_729
  let c16_i32_730 : BitVec 32 := 16#32
  let c0_i32_731 : BitVec 32 := 0#32
  let v1102 : BitVec 1 := Scalar.cmpi .eq c16_i32_730 c0_i32_731
  let c1_i32_732 : BitVec 32 := 1#32
  let v1103 : BitVec 32 := Scalar.select v1102 c1_i32_732 c16_i32_730
  let v1104 : BitVec 32 := Scalar.remsi v1101 v1103
  let c0_i32_734 : BitVec 32 := 0#32
  let v1106 : BitVec 1 := Scalar.cmpi .slt v1104 c0_i32_734
  let c0_i32_735 : BitVec 32 := 0#32
  let v1107 : BitVec 1 := Scalar.cmpi .slt v1103 c0_i32_735
  let v1108 : BitVec 1 := Scalar.xori v1106 v1107
  let c0_i32_733 : BitVec 32 := 0#32
  let v1105 : BitVec 1 := Scalar.cmpi .ne v1104 c0_i32_733
  let v1109 : BitVec 1 := Scalar.andi v1108 v1105
  let v1110 : BitVec 32 := Scalar.addi v1104 v1103
  let v1111 : BitVec 32 := Scalar.select v1109 v1110 v1104
  let c1_i32_739 : BitVec 32 := 1#32
  let v1112 : BitVec 32 := Scalar.muli v1111 c1_i32_739
  let v1113 : BitVec 32 := Scalar.addi c0_i32_740 v1112
  v1113.toNat
def k0_dev32 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_743 : BitVec 32 := 2#32
  let v1120 : BitVec 32 := Scalar.addi v2 c2_i32_743
  let c16_i32_744 : BitVec 32 := 16#32
  let c0_i32_745 : BitVec 32 := 0#32
  let v1121 : BitVec 1 := Scalar.cmpi .eq c16_i32_744 c0_i32_745
  let c1_i32_746 : BitVec 32 := 1#32
  let v1122 : BitVec 32 := Scalar.select v1121 c1_i32_746 c16_i32_744
  let v1123 : BitVec 32 := Scalar.remsi v1120 v1122
  let c0_i32_748 : BitVec 32 := 0#32
  let v1125 : BitVec 1 := Scalar.cmpi .slt v1123 c0_i32_748
  let c0_i32_749 : BitVec 32 := 0#32
  let v1126 : BitVec 1 := Scalar.cmpi .slt v1122 c0_i32_749
  let v1127 : BitVec 1 := Scalar.xori v1125 v1126
  let c0_i32_747 : BitVec 32 := 0#32
  let v1124 : BitVec 1 := Scalar.cmpi .ne v1123 c0_i32_747
  let v1128 : BitVec 1 := Scalar.andi v1127 v1124
  let v1129 : BitVec 32 := Scalar.addi v1123 v1122
  let v1130 : BitVec 32 := Scalar.select v1128 v1129 v1123
  let c1_i32_753 : BitVec 32 := 1#32
  let v1131 : BitVec 32 := Scalar.muli v1130 c1_i32_753
  let v1132 : BitVec 32 := Scalar.addi c0_i32_754 v1131
  v1132.toNat
def k0_dev33 (d0 : Dev nD) : Nat :=
  let c0_i32_768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_757 : BitVec 32 := 3#32
  let v1139 : BitVec 32 := Scalar.addi v2 c3_i32_757
  let c16_i32_758 : BitVec 32 := 16#32
  let c0_i32_759 : BitVec 32 := 0#32
  let v1140 : BitVec 1 := Scalar.cmpi .eq c16_i32_758 c0_i32_759
  let c1_i32_760 : BitVec 32 := 1#32
  let v1141 : BitVec 32 := Scalar.select v1140 c1_i32_760 c16_i32_758
  let v1142 : BitVec 32 := Scalar.remsi v1139 v1141
  let c0_i32_762 : BitVec 32 := 0#32
  let v1144 : BitVec 1 := Scalar.cmpi .slt v1142 c0_i32_762
  let c0_i32_763 : BitVec 32 := 0#32
  let v1145 : BitVec 1 := Scalar.cmpi .slt v1141 c0_i32_763
  let v1146 : BitVec 1 := Scalar.xori v1144 v1145
  let c0_i32_761 : BitVec 32 := 0#32
  let v1143 : BitVec 1 := Scalar.cmpi .ne v1142 c0_i32_761
  let v1147 : BitVec 1 := Scalar.andi v1146 v1143
  let v1148 : BitVec 32 := Scalar.addi v1142 v1141
  let v1149 : BitVec 32 := Scalar.select v1147 v1148 v1142
  let c1_i32_767 : BitVec 32 := 1#32
  let v1150 : BitVec 32 := Scalar.muli v1149 c1_i32_767
  let v1151 : BitVec 32 := Scalar.addi c0_i32_768 v1150
  v1151.toNat
def k0_dev34 (d0 : Dev nD) : Nat :=
  let c0_i32_782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_771 : BitVec 32 := 4#32
  let v1158 : BitVec 32 := Scalar.addi v2 c4_i32_771
  let c16_i32_772 : BitVec 32 := 16#32
  let c0_i32_773 : BitVec 32 := 0#32
  let v1159 : BitVec 1 := Scalar.cmpi .eq c16_i32_772 c0_i32_773
  let c1_i32_774 : BitVec 32 := 1#32
  let v1160 : BitVec 32 := Scalar.select v1159 c1_i32_774 c16_i32_772
  let v1161 : BitVec 32 := Scalar.remsi v1158 v1160
  let c0_i32_776 : BitVec 32 := 0#32
  let v1163 : BitVec 1 := Scalar.cmpi .slt v1161 c0_i32_776
  let c0_i32_777 : BitVec 32 := 0#32
  let v1164 : BitVec 1 := Scalar.cmpi .slt v1160 c0_i32_777
  let v1165 : BitVec 1 := Scalar.xori v1163 v1164
  let c0_i32_775 : BitVec 32 := 0#32
  let v1162 : BitVec 1 := Scalar.cmpi .ne v1161 c0_i32_775
  let v1166 : BitVec 1 := Scalar.andi v1165 v1162
  let v1167 : BitVec 32 := Scalar.addi v1161 v1160
  let v1168 : BitVec 32 := Scalar.select v1166 v1167 v1161
  let c1_i32_781 : BitVec 32 := 1#32
  let v1169 : BitVec 32 := Scalar.muli v1168 c1_i32_781
  let v1170 : BitVec 32 := Scalar.addi c0_i32_782 v1169
  v1170.toNat
def k0_dev35 (d0 : Dev nD) : Nat :=
  let c0_i32_796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_785 : BitVec 32 := 5#32
  let v1177 : BitVec 32 := Scalar.addi v2 c5_i32_785
  let c16_i32_786 : BitVec 32 := 16#32
  let c0_i32_787 : BitVec 32 := 0#32
  let v1178 : BitVec 1 := Scalar.cmpi .eq c16_i32_786 c0_i32_787
  let c1_i32_788 : BitVec 32 := 1#32
  let v1179 : BitVec 32 := Scalar.select v1178 c1_i32_788 c16_i32_786
  let v1180 : BitVec 32 := Scalar.remsi v1177 v1179
  let c0_i32_790 : BitVec 32 := 0#32
  let v1182 : BitVec 1 := Scalar.cmpi .slt v1180 c0_i32_790
  let c0_i32_791 : BitVec 32 := 0#32
  let v1183 : BitVec 1 := Scalar.cmpi .slt v1179 c0_i32_791
  let v1184 : BitVec 1 := Scalar.xori v1182 v1183
  let c0_i32_789 : BitVec 32 := 0#32
  let v1181 : BitVec 1 := Scalar.cmpi .ne v1180 c0_i32_789
  let v1185 : BitVec 1 := Scalar.andi v1184 v1181
  let v1186 : BitVec 32 := Scalar.addi v1180 v1179
  let v1187 : BitVec 32 := Scalar.select v1185 v1186 v1180
  let c1_i32_795 : BitVec 32 := 1#32
  let v1188 : BitVec 32 := Scalar.muli v1187 c1_i32_795
  let v1189 : BitVec 32 := Scalar.addi c0_i32_796 v1188
  v1189.toNat
def k0_dev36 (d0 : Dev nD) : Nat :=
  let c0_i32_810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_799 : BitVec 32 := 6#32
  let v1196 : BitVec 32 := Scalar.addi v2 c6_i32_799
  let c16_i32_800 : BitVec 32 := 16#32
  let c0_i32_801 : BitVec 32 := 0#32
  let v1197 : BitVec 1 := Scalar.cmpi .eq c16_i32_800 c0_i32_801
  let c1_i32_802 : BitVec 32 := 1#32
  let v1198 : BitVec 32 := Scalar.select v1197 c1_i32_802 c16_i32_800
  let v1199 : BitVec 32 := Scalar.remsi v1196 v1198
  let c0_i32_804 : BitVec 32 := 0#32
  let v1201 : BitVec 1 := Scalar.cmpi .slt v1199 c0_i32_804
  let c0_i32_805 : BitVec 32 := 0#32
  let v1202 : BitVec 1 := Scalar.cmpi .slt v1198 c0_i32_805
  let v1203 : BitVec 1 := Scalar.xori v1201 v1202
  let c0_i32_803 : BitVec 32 := 0#32
  let v1200 : BitVec 1 := Scalar.cmpi .ne v1199 c0_i32_803
  let v1204 : BitVec 1 := Scalar.andi v1203 v1200
  let v1205 : BitVec 32 := Scalar.addi v1199 v1198
  let v1206 : BitVec 32 := Scalar.select v1204 v1205 v1199
  let c1_i32_809 : BitVec 32 := 1#32
  let v1207 : BitVec 32 := Scalar.muli v1206 c1_i32_809
  let v1208 : BitVec 32 := Scalar.addi c0_i32_810 v1207
  v1208.toNat
def k0_dev37 (d0 : Dev nD) : Nat :=
  let c0_i32_824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_813 : BitVec 32 := 7#32
  let v1215 : BitVec 32 := Scalar.addi v2 c7_i32_813
  let c16_i32_814 : BitVec 32 := 16#32
  let c0_i32_815 : BitVec 32 := 0#32
  let v1216 : BitVec 1 := Scalar.cmpi .eq c16_i32_814 c0_i32_815
  let c1_i32_816 : BitVec 32 := 1#32
  let v1217 : BitVec 32 := Scalar.select v1216 c1_i32_816 c16_i32_814
  let v1218 : BitVec 32 := Scalar.remsi v1215 v1217
  let c0_i32_818 : BitVec 32 := 0#32
  let v1220 : BitVec 1 := Scalar.cmpi .slt v1218 c0_i32_818
  let c0_i32_819 : BitVec 32 := 0#32
  let v1221 : BitVec 1 := Scalar.cmpi .slt v1217 c0_i32_819
  let v1222 : BitVec 1 := Scalar.xori v1220 v1221
  let c0_i32_817 : BitVec 32 := 0#32
  let v1219 : BitVec 1 := Scalar.cmpi .ne v1218 c0_i32_817
  let v1223 : BitVec 1 := Scalar.andi v1222 v1219
  let v1224 : BitVec 32 := Scalar.addi v1218 v1217
  let v1225 : BitVec 32 := Scalar.select v1223 v1224 v1218
  let c1_i32_823 : BitVec 32 := 1#32
  let v1226 : BitVec 32 := Scalar.muli v1225 c1_i32_823
  let v1227 : BitVec 32 := Scalar.addi c0_i32_824 v1226
  v1227.toNat
def k0_dev38 (d0 : Dev nD) : Nat :=
  let c0_i32_838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_827 : BitVec 32 := 8#32
  let v1234 : BitVec 32 := Scalar.addi v2 c8_i32_827
  let c16_i32_828 : BitVec 32 := 16#32
  let c0_i32_829 : BitVec 32 := 0#32
  let v1235 : BitVec 1 := Scalar.cmpi .eq c16_i32_828 c0_i32_829
  let c1_i32_830 : BitVec 32 := 1#32
  let v1236 : BitVec 32 := Scalar.select v1235 c1_i32_830 c16_i32_828
  let v1237 : BitVec 32 := Scalar.remsi v1234 v1236
  let c0_i32_832 : BitVec 32 := 0#32
  let v1239 : BitVec 1 := Scalar.cmpi .slt v1237 c0_i32_832
  let c0_i32_833 : BitVec 32 := 0#32
  let v1240 : BitVec 1 := Scalar.cmpi .slt v1236 c0_i32_833
  let v1241 : BitVec 1 := Scalar.xori v1239 v1240
  let c0_i32_831 : BitVec 32 := 0#32
  let v1238 : BitVec 1 := Scalar.cmpi .ne v1237 c0_i32_831
  let v1242 : BitVec 1 := Scalar.andi v1241 v1238
  let v1243 : BitVec 32 := Scalar.addi v1237 v1236
  let v1244 : BitVec 32 := Scalar.select v1242 v1243 v1237
  let c1_i32_837 : BitVec 32 := 1#32
  let v1245 : BitVec 32 := Scalar.muli v1244 c1_i32_837
  let v1246 : BitVec 32 := Scalar.addi c0_i32_838 v1245
  v1246.toNat
def k0_dev39 (d0 : Dev nD) : Nat :=
  let c0_i32_852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_841 : BitVec 32 := 9#32
  let v1253 : BitVec 32 := Scalar.addi v2 c9_i32_841
  let c16_i32_842 : BitVec 32 := 16#32
  let c0_i32_843 : BitVec 32 := 0#32
  let v1254 : BitVec 1 := Scalar.cmpi .eq c16_i32_842 c0_i32_843
  let c1_i32_844 : BitVec 32 := 1#32
  let v1255 : BitVec 32 := Scalar.select v1254 c1_i32_844 c16_i32_842
  let v1256 : BitVec 32 := Scalar.remsi v1253 v1255
  let c0_i32_846 : BitVec 32 := 0#32
  let v1258 : BitVec 1 := Scalar.cmpi .slt v1256 c0_i32_846
  let c0_i32_847 : BitVec 32 := 0#32
  let v1259 : BitVec 1 := Scalar.cmpi .slt v1255 c0_i32_847
  let v1260 : BitVec 1 := Scalar.xori v1258 v1259
  let c0_i32_845 : BitVec 32 := 0#32
  let v1257 : BitVec 1 := Scalar.cmpi .ne v1256 c0_i32_845
  let v1261 : BitVec 1 := Scalar.andi v1260 v1257
  let v1262 : BitVec 32 := Scalar.addi v1256 v1255
  let v1263 : BitVec 32 := Scalar.select v1261 v1262 v1256
  let c1_i32_851 : BitVec 32 := 1#32
  let v1264 : BitVec 32 := Scalar.muli v1263 c1_i32_851
  let v1265 : BitVec 32 := Scalar.addi c0_i32_852 v1264
  v1265.toNat
def k0_dev40 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_855 : BitVec 32 := 10#32
  let v1272 : BitVec 32 := Scalar.addi v2 c10_i32_855
  let c16_i32_856 : BitVec 32 := 16#32
  let c0_i32_857 : BitVec 32 := 0#32
  let v1273 : BitVec 1 := Scalar.cmpi .eq c16_i32_856 c0_i32_857
  let c1_i32_858 : BitVec 32 := 1#32
  let v1274 : BitVec 32 := Scalar.select v1273 c1_i32_858 c16_i32_856
  let v1275 : BitVec 32 := Scalar.remsi v1272 v1274
  let c0_i32_860 : BitVec 32 := 0#32
  let v1277 : BitVec 1 := Scalar.cmpi .slt v1275 c0_i32_860
  let c0_i32_861 : BitVec 32 := 0#32
  let v1278 : BitVec 1 := Scalar.cmpi .slt v1274 c0_i32_861
  let v1279 : BitVec 1 := Scalar.xori v1277 v1278
  let c0_i32_859 : BitVec 32 := 0#32
  let v1276 : BitVec 1 := Scalar.cmpi .ne v1275 c0_i32_859
  let v1280 : BitVec 1 := Scalar.andi v1279 v1276
  let v1281 : BitVec 32 := Scalar.addi v1275 v1274
  let v1282 : BitVec 32 := Scalar.select v1280 v1281 v1275
  let c1_i32_865 : BitVec 32 := 1#32
  let v1283 : BitVec 32 := Scalar.muli v1282 c1_i32_865
  let v1284 : BitVec 32 := Scalar.addi c0_i32_866 v1283
  v1284.toNat
def k0_dev41 (d0 : Dev nD) : Nat :=
  let c0_i32_880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_869 : BitVec 32 := 11#32
  let v1291 : BitVec 32 := Scalar.addi v2 c11_i32_869
  let c16_i32_870 : BitVec 32 := 16#32
  let c0_i32_871 : BitVec 32 := 0#32
  let v1292 : BitVec 1 := Scalar.cmpi .eq c16_i32_870 c0_i32_871
  let c1_i32_872 : BitVec 32 := 1#32
  let v1293 : BitVec 32 := Scalar.select v1292 c1_i32_872 c16_i32_870
  let v1294 : BitVec 32 := Scalar.remsi v1291 v1293
  let c0_i32_874 : BitVec 32 := 0#32
  let v1296 : BitVec 1 := Scalar.cmpi .slt v1294 c0_i32_874
  let c0_i32_875 : BitVec 32 := 0#32
  let v1297 : BitVec 1 := Scalar.cmpi .slt v1293 c0_i32_875
  let v1298 : BitVec 1 := Scalar.xori v1296 v1297
  let c0_i32_873 : BitVec 32 := 0#32
  let v1295 : BitVec 1 := Scalar.cmpi .ne v1294 c0_i32_873
  let v1299 : BitVec 1 := Scalar.andi v1298 v1295
  let v1300 : BitVec 32 := Scalar.addi v1294 v1293
  let v1301 : BitVec 32 := Scalar.select v1299 v1300 v1294
  let c1_i32_879 : BitVec 32 := 1#32
  let v1302 : BitVec 32 := Scalar.muli v1301 c1_i32_879
  let v1303 : BitVec 32 := Scalar.addi c0_i32_880 v1302
  v1303.toNat
def k0_dev42 (d0 : Dev nD) : Nat :=
  let c0_i32_894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_883 : BitVec 32 := 12#32
  let v1310 : BitVec 32 := Scalar.addi v2 c12_i32_883
  let c16_i32_884 : BitVec 32 := 16#32
  let c0_i32_885 : BitVec 32 := 0#32
  let v1311 : BitVec 1 := Scalar.cmpi .eq c16_i32_884 c0_i32_885
  let c1_i32_886 : BitVec 32 := 1#32
  let v1312 : BitVec 32 := Scalar.select v1311 c1_i32_886 c16_i32_884
  let v1313 : BitVec 32 := Scalar.remsi v1310 v1312
  let c0_i32_888 : BitVec 32 := 0#32
  let v1315 : BitVec 1 := Scalar.cmpi .slt v1313 c0_i32_888
  let c0_i32_889 : BitVec 32 := 0#32
  let v1316 : BitVec 1 := Scalar.cmpi .slt v1312 c0_i32_889
  let v1317 : BitVec 1 := Scalar.xori v1315 v1316
  let c0_i32_887 : BitVec 32 := 0#32
  let v1314 : BitVec 1 := Scalar.cmpi .ne v1313 c0_i32_887
  let v1318 : BitVec 1 := Scalar.andi v1317 v1314
  let v1319 : BitVec 32 := Scalar.addi v1313 v1312
  let v1320 : BitVec 32 := Scalar.select v1318 v1319 v1313
  let c1_i32_893 : BitVec 32 := 1#32
  let v1321 : BitVec 32 := Scalar.muli v1320 c1_i32_893
  let v1322 : BitVec 32 := Scalar.addi c0_i32_894 v1321
  v1322.toNat
def k0_dev43 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_897 : BitVec 32 := 13#32
  let v1329 : BitVec 32 := Scalar.addi v2 c13_i32_897
  let c16_i32_898 : BitVec 32 := 16#32
  let c0_i32_899 : BitVec 32 := 0#32
  let v1330 : BitVec 1 := Scalar.cmpi .eq c16_i32_898 c0_i32_899
  let c1_i32_900 : BitVec 32 := 1#32
  let v1331 : BitVec 32 := Scalar.select v1330 c1_i32_900 c16_i32_898
  let v1332 : BitVec 32 := Scalar.remsi v1329 v1331
  let c0_i32_902 : BitVec 32 := 0#32
  let v1334 : BitVec 1 := Scalar.cmpi .slt v1332 c0_i32_902
  let c0_i32_903 : BitVec 32 := 0#32
  let v1335 : BitVec 1 := Scalar.cmpi .slt v1331 c0_i32_903
  let v1336 : BitVec 1 := Scalar.xori v1334 v1335
  let c0_i32_901 : BitVec 32 := 0#32
  let v1333 : BitVec 1 := Scalar.cmpi .ne v1332 c0_i32_901
  let v1337 : BitVec 1 := Scalar.andi v1336 v1333
  let v1338 : BitVec 32 := Scalar.addi v1332 v1331
  let v1339 : BitVec 32 := Scalar.select v1337 v1338 v1332
  let c1_i32_907 : BitVec 32 := 1#32
  let v1340 : BitVec 32 := Scalar.muli v1339 c1_i32_907
  let v1341 : BitVec 32 := Scalar.addi c0_i32_908 v1340
  v1341.toNat
def k0_dev44 (d0 : Dev nD) : Nat :=
  let c0_i32_922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_911 : BitVec 32 := 14#32
  let v1348 : BitVec 32 := Scalar.addi v2 c14_i32_911
  let c16_i32_912 : BitVec 32 := 16#32
  let c0_i32_913 : BitVec 32 := 0#32
  let v1349 : BitVec 1 := Scalar.cmpi .eq c16_i32_912 c0_i32_913
  let c1_i32_914 : BitVec 32 := 1#32
  let v1350 : BitVec 32 := Scalar.select v1349 c1_i32_914 c16_i32_912
  let v1351 : BitVec 32 := Scalar.remsi v1348 v1350
  let c0_i32_916 : BitVec 32 := 0#32
  let v1353 : BitVec 1 := Scalar.cmpi .slt v1351 c0_i32_916
  let c0_i32_917 : BitVec 32 := 0#32
  let v1354 : BitVec 1 := Scalar.cmpi .slt v1350 c0_i32_917
  let v1355 : BitVec 1 := Scalar.xori v1353 v1354
  let c0_i32_915 : BitVec 32 := 0#32
  let v1352 : BitVec 1 := Scalar.cmpi .ne v1351 c0_i32_915
  let v1356 : BitVec 1 := Scalar.andi v1355 v1352
  let v1357 : BitVec 32 := Scalar.addi v1351 v1350
  let v1358 : BitVec 32 := Scalar.select v1356 v1357 v1351
  let c1_i32_921 : BitVec 32 := 1#32
  let v1359 : BitVec 32 := Scalar.muli v1358 c1_i32_921
  let v1360 : BitVec 32 := Scalar.addi c0_i32_922 v1359
  v1360.toNat
def k0_dev45 (d0 : Dev nD) : Nat :=
  let c0_i32_936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_925 : BitVec 32 := 15#32
  let v1367 : BitVec 32 := Scalar.addi v2 c15_i32_925
  let c16_i32_926 : BitVec 32 := 16#32
  let c0_i32_927 : BitVec 32 := 0#32
  let v1368 : BitVec 1 := Scalar.cmpi .eq c16_i32_926 c0_i32_927
  let c1_i32_928 : BitVec 32 := 1#32
  let v1369 : BitVec 32 := Scalar.select v1368 c1_i32_928 c16_i32_926
  let v1370 : BitVec 32 := Scalar.remsi v1367 v1369
  let c0_i32_930 : BitVec 32 := 0#32
  let v1372 : BitVec 1 := Scalar.cmpi .slt v1370 c0_i32_930
  let c0_i32_931 : BitVec 32 := 0#32
  let v1373 : BitVec 1 := Scalar.cmpi .slt v1369 c0_i32_931
  let v1374 : BitVec 1 := Scalar.xori v1372 v1373
  let c0_i32_929 : BitVec 32 := 0#32
  let v1371 : BitVec 1 := Scalar.cmpi .ne v1370 c0_i32_929
  let v1375 : BitVec 1 := Scalar.andi v1374 v1371
  let v1376 : BitVec 32 := Scalar.addi v1370 v1369
  let v1377 : BitVec 32 := Scalar.select v1375 v1376 v1370
  let c1_i32_935 : BitVec 32 := 1#32
  let v1378 : BitVec 32 := Scalar.muli v1377 c1_i32_935
  let v1379 : BitVec 32 := Scalar.addi c0_i32_936 v1378
  v1379.toNat
def k0_off3 (d0 : Dev nD) (c1_i32_948 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1395 : BitVec 32 := Scalar.subi v2 c1_i32_948
  let c16_i32_949 : BitVec 32 := 16#32
  let c0_i32_950 : BitVec 32 := 0#32
  let v1396 : BitVec 1 := Scalar.cmpi .eq c16_i32_949 c0_i32_950
  let c1_i32_951 : BitVec 32 := 1#32
  let v1397 : BitVec 32 := Scalar.select v1396 c1_i32_951 c16_i32_949
  let v1398 : BitVec 32 := Scalar.remsi v1395 v1397
  let c0_i32_953 : BitVec 32 := 0#32
  let v1400 : BitVec 1 := Scalar.cmpi .slt v1398 c0_i32_953
  let c0_i32_954 : BitVec 32 := 0#32
  let v1401 : BitVec 1 := Scalar.cmpi .slt v1397 c0_i32_954
  let v1402 : BitVec 1 := Scalar.xori v1400 v1401
  let c0_i32_952 : BitVec 32 := 0#32
  let v1399 : BitVec 1 := Scalar.cmpi .ne v1398 c0_i32_952
  let v1403 : BitVec 1 := Scalar.andi v1402 v1399
  let v1404 : BitVec 32 := Scalar.addi v1398 v1397
  let v1405 : BitVec 32 := Scalar.select v1403 v1404 v1398
  let c32_i32_958 : BitVec 32 := 32#32
  let v1409 : BitVec 32 := Scalar.muli v1405 c32_i32_958
  let v1410 : Index := Scalar.indexCast v1409
  let c0_959 : Index := 0#32
  ![v1410.toNat, 0]
abbrev stage0_0 : Fin 1 → Memref sig .tc .vmem S512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x8192 : Shape := ⟨2, ![768, 8192]⟩
abbrev S8192x768 : Shape := ⟨2, ![8192, 768]⟩
abbrev S768x2048 : Shape := ⟨2, ![768, 2048]⟩
abbrev S2x256x8192 : Shape := ⟨3, ![2, 256, 8192]⟩
abbrev S2x256x128x64 : Shape := ⟨4, ![2, 256, 128, 64]⟩
abbrev S2x256x2048 : Shape := ⟨3, ![2, 256, 2048]⟩
abbrev S2x256x32x64 : Shape := ⟨4, ![2, 256, 32, 64]⟩
abbrev S2x256x32x4x64 : Shape := ⟨5, ![2, 256, 32, 4, 64]⟩
abbrev S_ : Shape := ⟨0, ![]⟩
abbrev S2x128x256x1 : Shape := ⟨4, ![2, 128, 256, 1]⟩
abbrev S2x128x256x256 : Shape := ⟨4, ![2, 128, 256, 256]⟩
abbrev S2x128x256 : Shape := ⟨3, ![2, 128, 256]⟩
abbrev S2x256x128x1 : Shape := ⟨4, ![2, 256, 128, 1]⟩
abbrev S2x128x64x256 : Shape := ⟨4, ![2, 128, 64, 256]⟩

abbrev nBuf : Space → Nat
  | .hbm => 55
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x8192, .bf16⟩
  | .hbm, ⟨2, _⟩ => ⟨S8192x768, .bf16⟩
  | .hbm, ⟨3, _⟩ => ⟨S768x2048, .bf16⟩
  | .hbm, ⟨4, _⟩ => ⟨S768x2048, .bf16⟩
  | .hbm, ⟨5, _⟩ => ⟨S2x256x768, .f32⟩
  | .hbm, ⟨6, _⟩ => ⟨S768x8192, .f32⟩
  | .hbm, ⟨7, _⟩ => ⟨S8192x768, .f32⟩
  | .hbm, ⟨8, _⟩ => ⟨S768x2048, .f32⟩
  | .hbm, ⟨9, _⟩ => ⟨S768x2048, .f32⟩
  | .hbm, ⟨10, _⟩ => ⟨S2x256x8192, .f32⟩
  | .hbm, ⟨11, _⟩ => ⟨S2x256x128x64, .f32⟩
  | .hbm, ⟨12, _⟩ => ⟨S2x256x2048, .f32⟩
  | .hbm, ⟨13, _⟩ => ⟨S2x256x32x64, .f32⟩
  | .hbm, ⟨14, _⟩ => ⟨S2x256x2048, .f32⟩
  | .hbm, ⟨15, _⟩ => ⟨S2x256x32x64, .f32⟩
  | .hbm, ⟨16, _⟩ => ⟨S2x256x32x4x64, .f32⟩
  | .hbm, ⟨17, _⟩ => ⟨S2x256x128x64, .f32⟩
  | .hbm, ⟨18, _⟩ => ⟨S2x256x32x4x64, .f32⟩
  | .hbm, ⟨19, _⟩ => ⟨S2x256x128x64, .f32⟩
  | .hbm, ⟨20, _⟩ => ⟨S_, .f32⟩
  | .hbm, ⟨21, _⟩ => ⟨S2x256x128x64, .f32⟩
  | .hbm, ⟨22, _⟩ => ⟨S_, .f32⟩
  | .hbm, ⟨23, _⟩ => ⟨S2x128x256x1, .f32⟩
  | .hbm, ⟨24, _⟩ => ⟨S_, .f32⟩
  | .hbm, ⟨25, _⟩ => ⟨S2x128x256x1, .f32⟩
  | .hbm, ⟨26, _⟩ => ⟨S2x128x256x256, .f32⟩
  | .hbm, ⟨27, _⟩ => ⟨S_, .f32⟩
  | .hbm, ⟨28, _⟩ => ⟨S2x128x256x256, .f32⟩
  | .hbm, ⟨29, _⟩ => ⟨S2x128x256x256, .f32⟩
  | .hbm, ⟨30, _⟩ => ⟨S_, .f32⟩
  | .hbm, ⟨31, _⟩ => ⟨S2x128x256, .f32⟩
  | .hbm, ⟨32, _⟩ => ⟨S2x128x256x1, .f32⟩
  | .hbm, ⟨33, _⟩ => ⟨S2x128x256x1, .f32⟩
  | .hbm, ⟨34, _⟩ => ⟨S2x128x256x1, .f32⟩
  | .hbm, ⟨35, _⟩ => ⟨S2x128x256x1, .f32⟩
  | .hbm, ⟨36, _⟩ => ⟨S2x128x256x256, .f32⟩
  | .hbm, ⟨37, _⟩ => ⟨S2x128x256x256, .f32⟩
  | .hbm, ⟨38, _⟩ => ⟨S2x128x256x256, .f32⟩
  | .hbm, ⟨39, _⟩ => ⟨S2x128x256x1, .f32⟩
  | .hbm, ⟨40, _⟩ => ⟨S_, .f32⟩
  | .hbm, ⟨41, _⟩ => ⟨S2x128x256, .f32⟩
  | .hbm, ⟨42, _⟩ => ⟨S2x128x256x1, .f32⟩
  | .hbm, ⟨43, _⟩ => ⟨S2x128x256x1, .f32⟩
  | .hbm, ⟨44, _⟩ => ⟨S2x256x128x1, .f32⟩
  | .hbm, ⟨45, _⟩ => ⟨S2x256x128x64, .f32⟩
  | .hbm, ⟨46, _⟩ => ⟨S2x256x128x64, .f32⟩
  | .hbm, ⟨47, _⟩ => ⟨S2x128x64x256, .f32⟩
  | .hbm, ⟨48, _⟩ => ⟨S2x256x128x64, .f32⟩
  | .hbm, ⟨49, _⟩ => ⟨S2x256x128x64, .f32⟩
  | .hbm, ⟨50, _⟩ => ⟨S2x256x128x1, .f32⟩
  | .hbm, ⟨51, _⟩ => ⟨S2x256x128x64, .f32⟩
  | .hbm, ⟨52, _⟩ => ⟨S2x256x128x64, .f32⟩
  | .hbm, ⟨53, _⟩ => ⟨S2x256x8192, .f32⟩
  | .hbm, ⟨54, _⟩ => ⟨S2x256x768, .f32⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Proof.Text.lean ====
/-
  The kernel's body, written as loops.

  The printed body is one straight run of operations: fifteen signals, one wait, five loads, the attention block,
  one store, and then four exchanges of fifteen steps each. Here it is written once per step, the step's number
  running over a list of `Fin 15`, and the two texts are shown equal by unfolding (`body_eq`).
-/
module

public import proofs.«01_k».proof.Proof.Gen.KernelIdeal
public import proofs.«01_k».proof.Proof.Gen.KernelIdeal.Launch
public import proofs.«01_k».proof.Proof.Gen.KernelIdeal.Points
public import Idealize.ShloMosaic.Lib.Pipeline.Regions

@[expose] public section

noncomputable section

namespace Cert.Proof

open Idealize.ShloMosaic Idealize.ShloMosaic.TcCoe
open Idealize.SL Idealize.SL.Sem
open Cert.KernelIdeal Cert.KernelIdeal.Gen

variable {F : FTy → Type} [FloatOps F]

/-- The programs of a kernel body. -/
abbrev KProg (F : FTy → Type) : Type 1 := Prog (TpuEff nD τ sig (Elt F) Λ₀ .tc) PUnit

/-! ## Peers -/

/-- The word the kernel computes for "my number plus `k`, modulo the mesh", step for step. -/
def peerWord (c : Dev nD) (k : BitVec 32) : BitVec 32 :=
  let v0 : BitVec 32 := Dev.word c
  let v1 : BitVec 32 := Scalar.divsi v0 1#32
  let v2 : BitVec 32 := Scalar.remsi v1 16#32
  let v4 : BitVec 32 := Scalar.addi v2 k
  let v5 : BitVec 1 := Scalar.cmpi .eq 16#32 0#32
  let v6 : BitVec 32 := Scalar.select v5 1#32 16#32
  let v7 : BitVec 32 := Scalar.remsi v4 v6
  let v9 : BitVec 1 := Scalar.cmpi .slt v7 0#32
  let v10 : BitVec 1 := Scalar.cmpi .slt v6 0#32
  let v11 : BitVec 1 := Scalar.xori v9 v10
  let v8 : BitVec 1 := Scalar.cmpi .ne v7 0#32
  let v12 : BitVec 1 := Scalar.andi v11 v8
  let v13 : BitVec 32 := Scalar.addi v7 v6
  let v14 : BitVec 32 := Scalar.select v12 v13 v7
  let v15 : BitVec 32 := Scalar.muli v14 1#32
  Scalar.addi 0#32 v15

theorem peerWord_lt : ∀ (c : Dev nD) (i : Fin 15), (peerWord c (BitVec.ofNat 32 (1 + i.val))).toNat < nD := by decide +kernel

/-- The device step `i` of device `c` talks to: `i + 1` places on. -/
def peer (c : Dev nD) (i : Fin 15) : Dev nD := ⟨(peerWord c (BitVec.ofNat 32 (1 + i.val))).toNat, peerWord_lt c i⟩

/-- The device step `i` of device `c` hears from: `i + 1` places back. -/
def src (c : Dev nD) (i : Fin 15) : Dev nD := ⟨(c.val + (15 - i.val)) % 16, Nat.mod_lt _ (by decide)⟩

theorem peer_val : ∀ (c : Dev nD) (i : Fin 15), (peer c i).val = (c.val + 1 + i.val) % 16 := by decide +kernel
theorem src_peer : ∀ (c : Dev nD) (i : Fin 15), src (peer c i) i = c := by decide +kernel
theorem peer_src : ∀ (c : Dev nD) (i : Fin 15), peer (src c i) i = c := by decide +kernel
/-- Going on `i + 1` places is going back by the mirrored step. -/
theorem src_rev : ∀ (c : Dev nD) (i : Fin 15), src c i.rev = peer c i := by decide +kernel
theorem peer_rev : ∀ (c : Dev nD) (i : Fin 15), peer c i.rev = src c i := by decide +kernel

/-! ## The buffers -/

abbrev xM : Memref sig .tc .vmem S512x768 .bf16 := Memref.whole cc0_stg0_0
abbrev wqM : Memref sig .tc .vmem S768x512 .bf16 := Memref.whole cc0_stg1_0
abbrev woM : Memref sig .tc .vmem S512x768 .bf16 := Memref.whole cc0_stg2_0
abbrev wkM : Memref sig .tc .vmem S768x128 .bf16 := Memref.whole cc0_stg3_0
abbrev wvM : Memref sig .tc .vmem S768x128 .bf16 := Memref.whole cc0_stg4_0
abbrev oM : Memref sig .tc .vmem S512x768 .f32 := Memref.whole cc0_stg5_0
abbrev sM : Memref sig .tc .vmem S15x32x768 .bf16 := Memref.whole cc0_scratch0
abbrev rM : Memref sig .tc .vmem S15x32x768 .bf16 := Memref.whole cc0_scratch1
abbrev dM : Memref sig .tc .vmem S32x768 .bf16 := Memref.whole cc0_scratch2
abbrev aM : Memref sig .tc .vmem S15x32x768 .bf16 := Memref.whole cc0_scratch3

theorem slot_inb (i : Fin 15) : ∀ a, (![i.val, 0, 0] : Fin 3 → Nat) a + S1x32x768.size a ≤ S15x32x768.size a := by
  revert i; decide
theorem slot_packed : ∀ i : Fin 15, (Rect.unit (s := S15x32x768) ![i.val, 0, 0] S1x32x768.size (slot_inb i)).PackedRows (EltTy.packing .bf16) := by
  decide
theorem slot_words : ∀ i : Fin 15, (Rect.unit (s := S15x32x768) ![i.val, 0, 0] S1x32x768.size (slot_inb i)).WholeWords (EltTy.packing .bf16) := by
  decide
theorem sem_inb (i : Fin 15) : ∀ a, (![i.val] : Fin 1 → Nat) a + S1.size a ≤ S15.size a := by
  revert i; decide

/-- Slot `i` of a buffer of fifteen, as the rectangle an access takes. -/
abbrev slotR (i : Fin 15) : Rect S15x32x768 := Rect.unit (s := S15x32x768) ![i.val, 0, 0] S1x32x768.size (slot_inb i)
/-- Slot `i` of a buffer of fifteen, as a view. -/
abbrev slot (b : Memref sig .tc .vmem S15x32x768 .bf16) (i : Fin 15) : Memref sig .tc .vmem S32x768 .bf16 :=
  (b.slice (slotR i) (fun _ => rfl)).squeeze S32x768 squeezes_S1x32x768_S32x768
/-- Semaphore `i` of an array of fifteen. -/
abbrev semAt (s : DmaSems sig S15) (i : Fin 15) : DmaSem sig :=
  ((s.slice (Rect.unit (s := S15) ![i.val] S1.size (sem_inb i))).squeeze S_ squeezes_S1_S_).sem

theorem slot_exact (b : Memref sig .tc .vmem S15x32x768 .bf16) (hb : b.IsWhole) (i : Fin 15) : (slot b i).view.WordExact :=
  (hb.wordExact_slice rfl _ (slot_words i)).reshape _ _
theorem d_exact : dM.view.WordExact := (Memref.isWhole_whole _).wordExact

abbrev barS : Sem sig := (SemArray.scalar (sig.barrier 0 rfl) : Sems sig S_).sem

/-- The rows a device keeps the sum of, and those it sends at step `i` and receives at step `i`. -/
abbrev ownR (c : Dev nD) : Rect S512x768 := Rect.unit (s := S512x768) (k0_off2 c) S32x768.size (k0_off2_inb c)
abbrev giveR (c : Dev nD) (i : Fin 15) : Rect S512x768 :=
  Rect.unit (s := S512x768) (k0_off1 c (BitVec.ofNat 32 (1 + i.val))) S32x768.size (k0_off1_inb c i)
abbrev takeR (c : Dev nD) (i : Fin 15) : Rect S512x768 :=
  Rect.unit (s := S512x768) (k0_off3 c (BitVec.ofNat 32 (1 + i.val))) S32x768.size (k0_off3_inb c i)

/-! ## The values -/

/-- One head's attention over one batch row: `q`, `k`, `v` are all devices' rows by this device's columns. -/
theorem q_slices : ∀ (b : Fin 2) (h : Fin 8), S512x512.Slices ![256 * b.val, 64 * h.val] S256x64 := by decide
theorem kv_slices : ∀ (b : Fin 2) (h : Fin 8), S512x128.Slices ![256 * b.val, 64 * (h.val / 4)] S256x64 := by decide

def headP (q : FVec F S512x512 .bf16) (k : FVec F S512x128 .bf16) (b : Fin 2) (h : Fin 8) : FVec F S256x256 .f32 :=
  let qs : FVec F S256x64 .bf16 := extractStridedSlice S256x64 ![256 * b.val, 64 * h.val] q (q_slices b h)
  let ks : FVec F S256x64 .bf16 := extractStridedSlice S256x64 ![256 * b.val, 64 * (h.val / 4)] k (kv_slices b h)
  let s : FVec F S256x256 .f32 := matmul dot_S256x64_S256x64_S256x256_1_1_0_0_n_n none qs ks (constant S256x256 .f32 0x00000000#32)
  let mx : FVec F S256 .f32 := multiReduction .maximumf [1] S256 s 0xFF800000#32 reduces_S256x256_S256 (.inl rfl) rfl
  exp (subf s (broadcastTo S256x256 (shapeCast S256x1 mx shapeCasts_S256_S256x1) broadcasts_S256x1_S256x256))

def head (q : FVec F S512x512 .bf16) (k v : FVec F S512x128 .bf16) (b : Fin 2) (h : Fin 8) : FVec F S256x64 .bf16 :=
  let p : FVec F S256x256 .f32 := headP q k b h
  let vs : FVec F S256x64 .bf16 := extractStridedSlice S256x64 ![256 * b.val, 64 * (h.val / 4)] v (kv_slices b h)
  let l : FVec F S256 .f32 := multiReduction .add [1] S256 p 0x00000000#32 reduces_S256x256_S256 (.inl rfl) rfl
  let o : FVec F S256x64 .f32 := matmul dot_S256x256_S256x64_S256x64_1_0_0_1_n_n none (truncf .bf16 p bitsLt_bf16_f32) vs
    (constant S256x64 .f32 0x00000000#32)
  truncf .bf16 (divf o (broadcastTo S256x64 (shapeCast S256x1 l shapeCasts_S256_S256x1) broadcasts_S256x1_S256x64)) bitsLt_bf16_f32

/-- A batch row's heads side by side. -/
def heads (q : FVec F S512x512 .bf16) (k v : FVec F S512x128 .bf16) (b : Fin 2) : FVec F S256x512 .bf16 :=
  concatenate S256x512 1
    [⟨S256x64, head q k v b 0⟩, ⟨S256x64, head q k v b 1⟩, ⟨S256x64, head q k v b 2⟩, ⟨S256x64, head q k v b 3⟩,
     ⟨S256x64, head q k v b 4⟩, ⟨S256x64, head q k v b 5⟩, ⟨S256x64, head q k v b 6⟩, ⟨S256x64, head q k v b 7⟩]
    concatenates_S256x64_S256x64_S256x64_S256x64_S256x64_S256x64_S256x64_S256x64_S256x512_d1

/-- What a device adds to every row of the result: its heads' attention through its rows of the output matrix. -/
def part (x : FVec F S512x768 .bf16) (wq : FVec F S768x512 .bf16) (wk wv : FVec F S768x128 .bf16) (wo : FVec F S512x768 .bf16) :
    FVec F S512x768 .f32 :=
  let xs : FVec F S512x768 .bf16 := shapeCast S512x768 x shapeCasts_S512x768_S512x768
  let q : FVec F S512x512 .bf16 := truncf .bf16 (mulf (matmul dot_S512x768_S768x512_S512x512_1_0_0_1_n_n none xs
      (shapeCast S768x512 wq shapeCasts_S768x512_S768x512) (constant S512x512 .f32 0x00000000#32))
      (broadcast S512x512 (Scalar.ofBits .f32 0x3E000000#32))) bitsLt_bf16_f32
  let k : FVec F S512x128 .bf16 := truncf .bf16 (matmul dot_S512x768_S768x128_S512x128_1_0_0_1_n_n none xs
      (shapeCast S768x128 wk shapeCasts_S768x128_S768x128) (constant S512x128 .f32 0x00000000#32)) bitsLt_bf16_f32
  let v : FVec F S512x128 .bf16 := truncf .bf16 (matmul dot_S512x768_S768x128_S512x128_1_0_0_1_n_n none xs
      (shapeCast S768x128 wv shapeCasts_S768x128_S768x128) (constant S512x128 .f32 0x00000000#32)) bitsLt_bf16_f32
  matmul dot_S512x512_S512x768_S512x768_1_0_0_1_n_n none
    (concatenate S512x512 0 [⟨S256x512, heads q k v 0⟩, ⟨S256x512, heads q k v 1⟩] concatenates_S256x512_S256x512_S512x512_d0)
    (shapeCast S512x768 wo shapeCasts_S512x768_S512x768) (constant S512x768 .f32 0x00000000#32)

/-- A block of rows as it is stored in a send slot: rounded, with a leading axis. -/
def toSlot (v : FVec F S32x768 .f32) : FVec F S1x32x768 .bf16 :=
  shapeCast S1x32x768 (truncf .bf16 (shapeCast S32x768 v shapeCasts_S32x768_S32x768) bitsLt_bf16_f32) shapeCasts_S32x768_S1x32x768
/-- A received slot as it enters a sum or a result. -/
def ofSlot (v : FVec F S1x32x768 .bf16) : FVec F S32x768 .f32 :=
  extf .f32 (shapeCast S32x768 v shapeCasts_S1x32x768_S32x768) bitsLt_bf16_f32
/-- The sum as it is stored to be sent. -/
def toRed (v : FVec F S32x768 .f32) : FVec F S32x768 .bf16 :=
  shapeCast S32x768 (truncf .bf16 v bitsLt_bf16_f32) shapeCasts_S32x768_S32x768

/-! ## The steps -/

/-- Step `i` of the opening barrier. -/
def bump (c : Dev nD) (i : Fin 15) (k : KProg F) : KProg F :=
  Prog.op (.semSignal (peer c i : Thread nD τ) barS 1) fun _ => k

/-- Step `i` of the first exchange: the block of rows the peer sums is rounded into send slot `i` and sent. -/
def give (c : Dev nD) (i : Fin 15) (k : KProg F) : KProg F :=
  Prog.op (.load oM (giveR c i).toLoadRect (View.loadsAt_vmem h_S32x768)) fun (v : Vec F S32x768 .f32) =>
  Prog.op (.load sM (slotR i).toLoadRect (View.loadsAt_vmem h_S1x32x768)) fun _ =>
  Prog.op (.store sM (slotR i) (toSlot v) Finset.univ
    (View.stores_vmem h_S1x32x768 ((Memref.isWhole_whole cc0_scratch0).storeExact_slice rfl _ (slot_packed i)) (fun _ => rfl)) (.inl rfl)) fun _ =>
  Prog.op (.enqueueDma (slot sM i) (.remote (Dev.tc (peer c i)) (slot rM i) (.dma (semAt cc0_scratch4 i))) (.dma (semAt cc0_scratch5 i))
    (slot_exact sM (Memref.isWhole_whole _) i) (slot_exact rM (Memref.isWhole_whole _) i) ⟨⟨rfl, Or.inl rfl⟩, trivial⟩) fun _ => k

/-- Step `i` of the sum: the block of the device `i + 1` places back arrives and is added. -/
def sumStep (i : Fin 15) (acc : FVec F S32x768 .f32) (k : FVec F S32x768 .f32 → KProg F) : KProg F :=
  Prog.op (.waitDma2 (semAt cc0_scratch5 i) (slot sM i) (slot rM i)
    (slot_exact sM (Memref.isWhole_whole _) i) (slot_exact rM (Memref.isWhole_whole _) i)) fun _ =>
  Prog.op (.load rM (slotR i).toLoadRect (View.loadsAt_vmem h_S1x32x768)) fun (v : Vec F S1x32x768 .bf16) => k (addf acc (ofSlot v))

/-- The sum's steps in order, the running sum handed on. -/
def sums : List (Fin 15) → FVec F S32x768 .f32 → (FVec F S32x768 .f32 → KProg F) → KProg F
  | [], acc, k => k acc
  | i :: l, acc, k => sumStep i acc fun acc' => sums l acc' k

/-- Step `i` of the second exchange: the rounded sum is sent. -/
def share (c : Dev nD) (i : Fin 15) (k : KProg F) : KProg F :=
  Prog.op (.enqueueDma dM (.remote (Dev.tc (peer c i)) (slot aM i) (.dma (semAt cc0_scratch6 i))) (.dma (semAt cc0_scratch7 i))
    d_exact (slot_exact aM (Memref.isWhole_whole _) i) ⟨⟨rfl, Or.inl rfl⟩, trivial⟩) fun _ => k

/-- Step `i` of the gathering: the sum of the device `i + 1` places back arrives and is written to its rows. -/
def take (c : Dev nD) (i : Fin 15) (k : KProg F) : KProg F :=
  Prog.op (.waitDma2 (semAt cc0_scratch7 i) dM (slot aM i) d_exact (slot_exact aM (Memref.isWhole_whole _) i)) fun _ =>
  Prog.op (.load aM (slotR i).toLoadRect (View.loadsAt_vmem h_S1x32x768)) fun (v : Vec F S1x32x768 .bf16) =>
  Prog.op (.load oM (takeR c i).toLoadRect (View.loadsAt_vmem h_S32x768)) fun _ =>
  Prog.op (.store oM (takeR c i) (ofSlot v) Finset.univ (View.stores_vmem_bits_univ h_S32x768 rfl) (.inl rfl)) fun _ => k

/-- Step `i` of the closing waits: both sends of step `i` have left. -/
def drain (i : Fin 15) (k : KProg F) : KProg F :=
  Prog.op (.waitDma2 (semAt cc0_scratch4 i) (slot rM i) (slot sM i)
    (slot_exact rM (Memref.isWhole_whole _) i) (slot_exact sM (Memref.isWhole_whole _) i)) fun _ =>
  Prog.op (.waitDma2 (semAt cc0_scratch6 i) (slot aM i) dM (slot_exact aM (Memref.isWhole_whole _) i) d_exact) fun _ => k

/-- The steps' numbers in order. -/
def steps : List (Fin 15) := [0, 1, 2, 3, 4, 5, 6, 7, 8, 9, 10, 11, 12, 13, 14]

/-- The five blocks read, the attention block computed and written to the result buffer. -/
def compute (k : KProg F) : KProg F :=
  Prog.op (.load wqM (Rect.unit (s := S768x512) ![0, 0] S768x512.size inb_S768x512_S768x512_0_0).toLoadRect (View.loadsAt_vmem h_S768x512)) fun (wq : Vec F S768x512 .bf16) =>
  Prog.op (.load wkM (Rect.unit (s := S768x128) ![0, 0] S768x128.size inb_S768x128_S768x128_0_0).toLoadRect (View.loadsAt_vmem h_S768x128)) fun (wk : Vec F S768x128 .bf16) =>
  Prog.op (.load wvM (Rect.unit (s := S768x128) ![0, 0] S768x128.size inb_S768x128_S768x128_0_0).toLoadRect (View.loadsAt_vmem h_S768x128)) fun (wv : Vec F S768x128 .bf16) =>
  Prog.op (.load woM (Rect.unit (s := S512x768) ![0, 0] S512x768.size inb_S512x768_S512x768_0_0).toLoadRect (View.loadsAt_vmem h_S512x768)) fun (wo : Vec F S512x768 .bf16) =>
  Prog.op (.load xM (Rect.unit (s := S512x768) ![0, 0] S512x768.size inb_S512x768_S512x768_0_0).toLoadRect (View.loadsAt_vmem h_S512x768)) fun (x : Vec F S512x768 .bf16) =>
  Prog.op (.load oM (Rect.unit (s := S512x768) ![0, 0] S512x768.size inb_S512x768_S512x768_0_0).toLoadRect (View.loadsAt_vmem h_S512x768)) fun _ =>
  Prog.op (.store oM (Rect.unit (s := S512x768) ![0, 0] S512x768.size inb_S512x768_S512x768_0_0) (part x wq wk wv wo) Finset.univ
    (View.stores_vmem_bits_univ h_S512x768 rfl) (.inl rfl)) fun _ => k

/-- The own rows read, all arriving blocks added. -/
def reduce (c : Dev nD) (k : FVec F S32x768 .f32 → KProg F) : KProg F :=
  Prog.op (.load oM (ownR c).toLoadRect (View.loadsAt_vmem h_S32x768)) fun (v : Vec F S32x768 .f32) =>
  sums steps (shapeCast S32x768 v shapeCasts_S32x768_S32x768) k

/-- The sum rounded into the buffer it is sent from. -/
def settle (acc : FVec F S32x768 .f32) (k : KProg F) : KProg F :=
  Prog.op (.load dM (Rect.unit (s := S32x768) ![0, 0] S32x768.size inb_S32x768_S32x768_0_0).toLoadRect (View.loadsAt_vmem h_S32x768)) fun _ =>
  Prog.op (.store dM (Rect.unit (s := S32x768) ![0, 0] S32x768.size inb_S32x768_S32x768_0_0) (toRed acc) Finset.univ
    (View.stores_vmem h_S32x768 ((Memref.isWhole_whole cc0_scratch2).storeExact_slice rfl _ packedbf16_S32x768_S32x768_0_0) (fun _ => rfl)) (.inl rfl)) fun _ => k

/-- The sum written to the own rows of the result. -/
def keep (c : Dev nD) (acc : FVec F S32x768 .f32) (k : KProg F) : KProg F :=
  Prog.op (.load oM (ownR c).toLoadRect (View.loadsAt_vmem h_S32x768)) fun _ =>
  Prog.op (.store oM (ownR c) acc Finset.univ (View.stores_vmem_bits_univ h_S32x768 rfl) (.inl rfl)) fun _ => k

/-- From the barrier's wait on. -/
def text₂ (c : Dev nD) : KProg F :=
  Prog.op (.semWait barS 15) fun _ =>
  compute <|
  steps.foldr (give c) <|
  reduce c fun acc =>
  settle acc <|
  steps.foldr (share c) <|
  keep c acc <|
  steps.foldr (take c) <|
  steps.foldr drain (Prog.ret ⟨⟩)

/-- The body on device `c`. -/
def text (c : Dev nD) : KProg F := steps.foldr (bump c) (text₂ c)

set_option maxRecDepth 100000 in
theorem body_eq (t : Fin cfg0.N) : bodyAt0 (F := F) t = Prog.op .deviceId text := by
  chain_rfl

end Cert.Proof
-- ==== Proof.Protocol.lean ====
/-
  The protocol of the kernel's 61 semaphores on each device: who owes what, and what each unit hands over.

  Every semaphore has one round.
  * The barrier semaphore of a device collects fifteen units, one from each of the other devices. The unit numbered `i`
    comes from the device `i + 1` places on and hands over that device's receive slots `i` of both exchanges: what the
    device needs to send its own blocks there.
  * A receive semaphore collects one transfer, which hands back the slot holding the sender's rows.
  * A send semaphore collects the same transfer at the sender, which hands back the buffer it was sent from.

  The contents are functions of `P`, the sixteen partial products.
-/
module

public import proofs.«01_k».proof.Proof.Text
public import Idealize.ShloMosaic.Lib.Pipeline.Kit
public import Idealize.ShloMosaic.Lib.Pipeline.BigSepL
public import Idealize.ShloMosaic.Lib.Pipeline.RegionTalk
public import Idealize.ShloMosaic.Lib.Rounds
public import Idealize.ShloMosaic.Lib.Ring
public import Idealize.ShloMosaic.Lib.ShareLeaves
public import Idealize.ShloMosaic.Lib.Tactic

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The resource algebra: the pipeline library's copy and the exchange's, whose duties are numbered by the fifteen steps. -/
abbrev UU : Type := UR sig nD τ × Rounds.URounds (GSem nD τ sig) (Fin 15)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 15)) (MT nD τ sig Unit (Elt F) ℕ UU ℕ) := embR

/-! ## Semaphores -/

/-- The four families of transfer semaphores: first exchange sent, received, second exchange sent, received. -/
abbrev arr : Fin 4 → DmaSems sig S15 := fun | 0 => cc0_scratch4 | 1 => cc0_scratch5 | 2 => cc0_scratch6 | 3 => cc0_scratch7

/-- The kernel's own semaphores. -/
abbrev osem (k : Fin 4 × Fin 15) : SemLoc sig := .dma (semAt (arr k.1) k.2)

/-- What a semaphore is for. -/
inductive Role where
  | bar | own (j : Fin 4) (i : Fin 15) | other

/-- Read off a semaphore's number. -/
def role : SemLoc sig → Role
  | .reg s => if s = barS then .bar else .other
  | .dma s => if h : 6 ≤ s.val ∧ s.val < 66 then
      .own ⟨(s.val - 6) / 15, by omega⟩ ⟨(s.val - 6) % 15, Nat.mod_lt _ (by decide)⟩ else .other

theorem role_bar : role (.reg barS) = .bar := by unfold role; exact if_pos rfl
theorem role_own : ∀ (j : Fin 4) (i : Fin 15), role (osem (j, i)) = .own j i := by
  have h : ∀ (j : Fin 4) (i : Fin 15), (semAt (arr j) i).val = 6 + 15 * j.val + i.val := by decide +kernel
  intro j i
  have h' := h j i
  have hj := j.isLt; have hi := i.isLt
  unfold role osem
  dsimp only
  rw [dif_pos (by omega)]
  congr 1
  · exact Fin.ext (by show (_ - 6) / 15 = _; omega)
  · exact Fin.ext (by show (_ - 6) % 15 = _; omega)

theorem osem_inj : Function.Injective osem := by
  rintro ⟨j, i⟩ ⟨j', i'⟩ h
  have := congrArg role h
  rw [role_own, role_own] at this
  cases this; rfl
theorem osem_ne_bar (k : Fin 4 × Fin 15) : osem k ≠ .reg barS := fun h => by cases h

abbrev barC (c : Dev nD) : GSem nD τ sig := ((c : Thread nD τ), .reg barS)
abbrev ownC (j : Fin 4) (i : Fin 15) (c : Dev nD) : GSem nD τ sig := ((c : Thread nD τ), osem (j, i))

/-- The units one transfer brings. -/
abbrev N : ℕ := (slot rM 0).view.dmaCredit
theorem N_pos : 0 < N := View.dmaCredit_pos _ (by decide)

/-! ## Contents -/

/-- A block of rows of a device's partial product. -/
abbrev giveV (P : Dev nD → FVec F S512x768 .f32) (c : Dev nD) (i : Fin 15) : FVec F S32x768 .f32 :=
  oM.view.readAt (Elt F) (giveR c i).toLoadRect (P c)
abbrev ownV (P : Dev nD → FVec F S512x768 .f32) (c : Dev nD) : FVec F S32x768 .f32 :=
  oM.view.readAt (Elt F) (ownR c).toLoadRect (P c)
/-- What device `c` sends at step `i` of the first exchange. -/
def msg (P : Dev nD → FVec F S512x768 .f32) (c : Dev nD) (i : Fin 15) : FVec F S32x768 .bf16 :=
  shapeCast S32x768 (toSlot (giveV P c i)) shapeCasts_S1x32x768_S32x768
/-- A received block as it enters a sum or a result. -/
def up (v : FVec F S32x768 .bf16) : FVec F S32x768 .f32 := extf .f32 v bitsLt_bf16_f32
/-- The sum after the steps listed. -/
def accOver (P : Dev nD → FVec F S512x768 .f32) (c : Dev nD) (l : List (Fin 15)) (acc : FVec F S32x768 .f32) : FVec F S32x768 .f32 :=
  l.foldl (fun acc i => addf acc (up (msg P (src c i) i))) acc
def acc (P : Dev nD → FVec F S512x768 .f32) (c : Dev nD) : FVec F S32x768 .f32 :=
  accOver P c steps (shapeCast S32x768 (ownV P c) shapeCasts_S32x768_S32x768)
def red (P : Dev nD → FVec F S512x768 .f32) (c : Dev nD) : FVec F S32x768 .bf16 := toRed (acc P c)
/-- The result buffer after the gathering steps listed. -/
def outOver (P : Dev nD → FVec F S512x768 .f32) (c : Dev nD) (l : List (Fin 15)) (f : FVec F S512x768 .f32) : FVec F S512x768 .f32 :=
  l.foldl (fun f i => (oM.access (takeR c i)).write (Elt F) f (up (red P (src c i))) Finset.univ) f
def kept (P : Dev nD → FVec F S512x768 .f32) (c : Dev nD) : FVec F S512x768 .f32 :=
  (oM.access (ownR c)).write (Elt F) (P c) (acc P c) Finset.univ
/-- The result buffer at the end. -/
def out (P : Dev nD → FVec F S512x768 .f32) (c : Dev nD) : FVec F S512x768 .f32 := outOver P c steps (kept P c)

/-! ## Slots held -/

/-- Slot `i` of a buffer on device `c`, holding `v`. -/
def holds (b : Memref sig .tc .vmem S15x32x768 .bf16) (c : Dev nD) (i : Fin 15) (v : FVec F S32x768 .bf16) : sProp 𝕄 :=
  iprop(∃ f, ((slot b i).view.loc (c : Thread nD τ) ↦[(slot b i).view.set]{fullShare} f) ∗ ⌜(slot b i).view.read (Elt F) f = v⌝)
/-- Slot `i` of a buffer on device `c`, holding anything. -/
def free (b : Memref sig .tc .vmem S15x32x768 .bf16) (c : Dev nD) (i : Fin 15) : sProp 𝕄 :=
  iprop(∃ f, (slot b i).view.loc (c : Thread nD τ) ↦[(slot b i).view.set]{fullShare} f)
/-- The share of the stored sum that step `i` lends. -/
def lease (i : Fin 15) : PosShare TreeShare := ShareLeaves.leaf 4 fullShare i.castSucc
/-- That share of it. -/
def lent (P : Dev nD → FVec F S512x768 .f32) (c : Dev nD) (i : Fin 15) : sProp 𝕄 :=
  dM.view.loc (c : Thread nD τ) ↦[dM.view.set]{lease i} (red P c)

theorem free_of_holds (b : Memref sig .tc .vmem S15x32x768 .bf16) (c : Dev nD) (i : Fin 15) (v : FVec F S32x768 .bf16) :
    holds b c i v ⊢ (free b c i : sProp 𝕄) := by
  unfold holds free
  iintro ⟨%f, H, -⟩; iexists f; iexact H

/-! ## The schedule -/

/-- Unit `i` of device `o`'s barrier: the slots `i` of the device that pays it, and that its receive semaphores are in their round. -/
def barPay (o : Dev nD) (i : Fin 15) : sProp 𝕄 :=
  iprop(free rM (peer o i) i ∗ free aM (peer o i) i ∗ reached ER (ownC 1 i (peer o i)) 0 ∗ reached ER (ownC 3 i (peer o i)) 0)

def ownPay (P : Dev nD → FVec F S512x768 .f32) (c : Dev nD) (i : Fin 15) : Fin 4 → sProp 𝕄
  | 0 => free sM c i
  | 1 => holds rM c i (msg P (src c i) i)
  | 2 => lent P c i
  | 3 => holds aM c i (red P (src c i))

def rolePay (P : Dev nD → FVec F S512x768 .f32) (c : Dev nD) (d : Fin 15) : Role → sProp 𝕄
  | .bar => barPay c d
  | .own j i => ownPay P c i j
  | .other => iprop(emp)

def roleDuties : Role → Finset (Fin 15)
  | .bar => Finset.univ
  | .own _ _ => {0}
  | .other => ∅

def roleAmount : Role → ℕ
  | .bar => 1
  | _ => N

def Rd (P : Dev nD → FVec F S512x768 .f32) : Rounds.Schedule (GSem nD τ sig) (Fin 15) 𝕄 where
  duties g r := if r = 0 ∧ g.1.2 = .tc then roleDuties (role g.2) else ∅
  unitless _ := False
  amount g _ _ := roleAmount (role g.2)
  payload g _ d := rolePay P g.1.1 d (role g.2)
  amount_pos g _ _ _ := by
    cases role g.2
    · exact Nat.one_pos
    · exact N_pos
    · exact N_pos

set_option synthInstance.maxHeartbeats 400000 in
instance free_storable (b : Memref sig .tc .vmem S15x32x768 .bf16) (c : Dev nD) (i : Fin 15) :
    BI.Storable (upEmb : UEmb _ 𝕄) (free b c i) := by unfold free; infer_instance
set_option synthInstance.maxHeartbeats 400000 in
instance holds_storable (b : Memref sig .tc .vmem S15x32x768 .bf16) (c : Dev nD) (i : Fin 15) (v : FVec F S32x768 .bf16) :
    BI.Storable (upEmb : UEmb _ 𝕄) (holds b c i v) := by unfold holds; infer_instance
instance lent_storable (P : Dev nD → FVec F S512x768 .f32) (c : Dev nD) (i : Fin 15) :
    BI.Storable (upEmb : UEmb _ 𝕄) (lent P c i) := by unfold lent; infer_instance
instance barPay_storable (c : Dev nD) (i : Fin 15) :
    BI.Storable (upEmb : UEmb _ 𝕄) (barPay c i) := by unfold barPay; infer_instance
instance ownPay_storable (P : Dev nD → FVec F S512x768 .f32) (c : Dev nD) (i : Fin 15) :
    ∀ j, BI.Storable (upEmb : UEmb _ 𝕄) (ownPay P c i j)
  | 0 => free_storable sM c i
  | 1 => holds_storable rM c i _
  | 2 => lent_storable P c i
  | 3 => holds_storable aM c i _
instance rolePay_storable (P : Dev nD → FVec F S512x768 .f32) (c : Dev nD) (d : Fin 15) :
    ∀ r, BI.Storable (upEmb : UEmb _ 𝕄) (rolePay P c d r)
  | .bar => barPay_storable c d
  | .own j i => ownPay_storable P c i j
  | .other => by unfold rolePay; infer_instance

instance Rd_payload_storable (P : Dev nD → FVec F S512x768 .f32) (g : GSem nD τ sig) (r : ℕ) (d : Fin 15) :
    BI.Storable (upEmb : UEmb _ 𝕄) ((Rd P).payload g r d) := by
  show BI.Storable upEmb (rolePay P g.1.1 d (role g.2)); infer_instance

section Sched

variable (P : Dev nD → FVec F S512x768 .f32) (c : Dev nD)

theorem duties_bar : (Rd P).duties (barC c) 0 = Finset.univ := by
  dsimp only [Rd]; rw [if_pos ⟨rfl, rfl⟩, role_bar]; rfl
theorem duties_own (j : Fin 4) (i : Fin 15) : (Rd P).duties (ownC j i c) 0 = {0} := by
  dsimp only [Rd]; rw [if_pos ⟨rfl, rfl⟩, role_own]; rfl
theorem duties_later (g : GSem nD τ sig) : ∀ r, 1 ≤ r → (Rd P).duties g r = ∅ :=
  fun r hr => by dsimp only [Rd]; rw [if_neg (fun h => by omega)]
theorem mem_own (j : Fin 4) (i : Fin 15) : (0 : Fin 15) ∈ (Rd P).duties (ownC j i c) 0 := by
  rw [duties_own]; exact Finset.mem_singleton_self _
theorem mem_bar (d : Fin 15) : d ∈ (Rd P).duties (barC c) 0 := by
  rw [duties_bar]; exact Finset.mem_univ _

theorem amount_bar (d : Fin 15) : (Rd P).amount (barC c) 0 d = 1 := by dsimp only [Rd]; rw [role_bar]; rfl
theorem amount_own (j : Fin 4) (i d : Fin 15) : (Rd P).amount (ownC j i c) 0 d = N := by dsimp only [Rd]; rw [role_own]; rfl

theorem expect_bar : (Rd P).expect (barC c) 0 = 15 := by
  unfold Schedule.expect Schedule.amountOf; rw [duties_bar, Finset.sum_congr rfl fun d _ => amount_bar P c d]; rfl
theorem expect_own (j : Fin 4) (i : Fin 15) : (Rd P).expect (ownC j i c) 0 = N := by
  unfold Schedule.expect Schedule.amountOf; rw [duties_own, Finset.sum_singleton, amount_own]

theorem payload_bar (d : Fin 15) : (Rd P).payload (barC c) 0 d = barPay c d := by dsimp only [Rd]; rw [role_bar]; rfl
theorem payload_own (j : Fin 4) (i d : Fin 15) : (Rd P).payload (ownC j i c) 0 d = ownPay P c i j := by
  dsimp only [Rd]; rw [role_own]; rfl

theorem rest_bar : bigSep ((Rd P).duties (barC c) 0 \ ∅) (fun d => (Rd P).payload (barC c) 0 d)
    = bigSep Finset.univ fun d => (barPay c d : sProp 𝕄) := by
  rw [Finset.sdiff_empty, duties_bar]; exact bigSep_congr fun d _ => payload_bar P c d
theorem rest_own (j : Fin 4) (i : Fin 15) : bigSep ((Rd P).duties (ownC j i c) 0 \ ∅) (fun d => (Rd P).payload (ownC j i c) 0 d)
    = ownPay P c i j := by
  rw [Finset.sdiff_empty, duties_own, bigSep_singleton, payload_own]

theorem close (κ : ℕ) (g : GSem nD τ sig) :
    iprop(cellInv ER (Rd P) κ g ∗ atPos ER g (0 + 1) ∅ 0) ⊢ (|={Set.univ}=> semVal g 0 : sProp 𝕄) :=
  Rounds.cell_close ER (Rd P) (Set.mem_univ κ) id (duties_later P g)

end Sched

/-! ## What each device owes; the levels -/

/-- The units a device owes for the steps listed: to the barriers, -/
def owedBar (c : Dev nD) (l : List (Fin 15)) : CellTallies nD τ sig Unit := (l.map fun i => tallyAt (barC (peer c i)) () 1).sum
/-- and to a family of receive semaphores. -/
def owedTo (j : Fin 4) (c : Dev nD) (l : List (Fin 15)) : CellTallies nD τ sig Unit := (l.map fun i => tallyAt (ownC j i (peer c i)) () N).sum

def O₀ (c : Dev nD) : CellTallies nD τ sig Unit := owedBar c steps + (owedTo 1 c steps + owedTo 3 c steps)

theorem owedBar_cons (c : Dev nD) (i : Fin 15) (l : List (Fin 15)) :
    owedBar c (i :: l) = owedBar c l + tallyAt (barC (peer c i)) () 1 := by
  unfold owedBar; rw [List.map_cons, List.sum_cons, add_comm]
theorem owedTo_cons (j : Fin 4) (c : Dev nD) (i : Fin 15) (l : List (Fin 15)) :
    owedTo j c (i :: l) = owedTo j c l + tallyAt (ownC j i (peer c i)) () N := by
  unfold owedTo; rw [List.map_cons, List.sum_cons, add_comm]
theorem owedBar_nil (c : Dev nD) : owedBar c [] = 0 := rfl
theorem owedTo_nil (j : Fin 4) (c : Dev nD) : owedTo j c [] = 0 := rfl

theorem pos_add {A B : CellTallies nD τ sig Unit} {g : GSem nD τ sig} {u : Unit} (h : 0 < (A + B) g u) : 0 < A g u ∨ 0 < B g u := by
  rw [Pi.add_apply, Finsupp.add_apply] at h
  exact Nat.add_pos_iff_pos_or_pos.mp h
theorem pos_tally {g g' : GSem nD τ sig} {u : Unit} {n : ℕ} (h : 0 < (tallyAt g' () n : CellTallies nD τ sig Unit) g u) : g = g' := by
  rw [tallyAt_apply] at h
  by_contra hn
  rw [if_neg (fun h => hn h.1)] at h
  exact absurd h (Nat.lt_irrefl 0)
theorem owedBar_pos {c : Dev nD} {l : List (Fin 15)} {g : GSem nD τ sig} {u : Unit} (h : 0 < owedBar c l g u) :
    ∃ i, g = barC (peer c i) := by
  induction l with
  | nil => exact absurd h (Nat.lt_irrefl 0)
  | cons i l ih =>
    rw [owedBar_cons] at h
    rcases pos_add h with h | h
    · exact ih h
    · exact ⟨i, pos_tally h⟩
theorem owedTo_pos {j : Fin 4} {c : Dev nD} {l : List (Fin 15)} {g : GSem nD τ sig} {u : Unit} (h : 0 < owedTo j c l g u) :
    ∃ i, g = ownC j i (peer c i) := by
  induction l with
  | nil => exact absurd h (Nat.lt_irrefl 0)
  | cons i l ih =>
    rw [owedTo_cons] at h
    rcases pos_add h with h | h
    · exact ih h
    · exact ⟨i, pos_tally h⟩

def L (g : GSem nD τ sig) : Finset Unit := if g.1.2 = .tc then {()} else ∅
/-- Barriers at 1, first receives at 2, second receives at 3, sends at 0. -/
def roleLevel : Role → ℕ
  | .bar => 1
  | .own j _ => if j = 1 then 2 else if j = 3 then 3 else 0
  | .other => 0
def lv (g : GSem nD τ sig) (_ : Unit) : ℕ := roleLevel (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := by unfold lv; rw [role_bar]; rfl
theorem lv_own (j : Fin 4) (i : Fin 15) (c : Dev nD) : lv (ownC j i c) () = if j = 1 then 2 else if j = 3 then 3 else 0 := by
  unfold lv; rw [role_own]; rfl

theorem mayWait_of (c : Dev nD) (sm : SemLoc sig) (n : ℕ) (O : CellTallies nD τ sig Unit)
    (h : lv ((c : Thread nD τ), sm) () ≤ n) (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact h)
    (fun g u hg => (hO g u hg).2)

theorem mayWait_bar (c : Dev nD) :
    (levAts L lv : sProp 𝕄) ⊢ MayWait (c : Thread nD τ) (.reg barS) () (owedTo 1 c steps + owedTo 3 c steps) :=
  mayWait_of c _ 1 _ (lv_bar c).le fun g u h => by
    rcases pos_add h with h | h <;> obtain ⟨i, rfl⟩ := owedTo_pos h
    · exact ⟨rfl, by rw [lv_own]; decide⟩
    · exact ⟨rfl, by rw [lv_own]; decide⟩

theorem mayWait_sum (c : Dev nD) (i : Fin 15) :
    (levAts L lv : sProp 𝕄) ⊢ MayWait (c : Thread nD τ) (osem (1, i)) () (owedTo 3 c steps) :=
  mayWait_of c _ 2 _ (lv_own 1 i c).le fun g u h => by
    obtain ⟨i, rfl⟩ := owedTo_pos h
    exact ⟨rfl, by rw [lv_own]; decide⟩

end Cert.Proof
-- ==== Proof.Steps.lean ====
/-
  The kernel's five loops, one lemma per step, and the loops from the steps.
-/
module

public import proofs.«01_k».proof.Proof.Protocol
public import Idealize.ShloMosaic.Lib.Pipeline.Value

@[expose] public section

set_option maxRecDepth 10000

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- A piece of the body run on device `c`. -/
abbrev run (c : Dev nD) (p : KProg F) (Kt : PUnit → sProp 𝕄) : sProp 𝕄 :=
  wp frame (wpE (defs₀ (F := F)) 𝒱₀ (c : Thread nD τ) none) Set.univ p Kt

/-! ## What every step may consult -/

/-- All the semaphores' invariants, at the names `K`; that every barrier is in its round. -/
def records (P : Dev nD → FVec F S512x768 .f32) (K : GSem nD τ sig → ℕ) : sProp 𝕄 :=
  iprop((bigSep Finset.univ fun o : Dev nD => cellInv ER (Rd P) (K (barC o)) (barC o))
    ∗ (bigSep Finset.univ fun x : Dev nD × (Fin 4 × Fin 15) => cellInv ER (Rd P) (K (ownC x.2.1 x.2.2 x.1)) (ownC x.2.1 x.2.2 x.1))
    ∗ bigSep Finset.univ fun o : Dev nD => reached ER (barC o) 0)
instance records_persistent (P : Dev nD → FVec F S512x768 .f32) (K : GSem nD τ sig → ℕ) : BI.Persistent (records P K) := by
  unfold records; infer_instance

/-- With the levels, and that the device's own semaphores are in their round. -/
def ctx (P : Dev nD → FVec F S512x768 .f32) (K : GSem nD τ sig → ℕ) (c : Dev nD) : sProp 𝕄 :=
  iprop(records P K ∗ levAts L lv ∗ bigSep Finset.univ fun x : Fin 4 × Fin 15 => reached ER (ownC x.1 x.2 c) 0)
instance ctx_persistent (P : Dev nD → FVec F S512x768 .f32) (K : GSem nD τ sig → ℕ) (c : Dev nD) : BI.Persistent (ctx P K c) := by
  unfold ctx; infer_instance

section Ctx
variable (P : Dev nD → FVec F S512x768 .f32) (K : GSem nD τ sig → ℕ) (c : Dev nD)

theorem records_bar (o : Dev nD) : records P K ⊢ cellInv ER (Rd P) (K (barC o)) (barC o) := by
  unfold records
  iintro ⟨#H, -, -⟩
  have h : (bigSep Finset.univ fun o : Dev nD => cellInv ER (Rd P) (K (barC o)) (barC o)) ⊢ cellInv ER (Rd P) (K (barC o)) (barC o) :=
    bigSep_elim (Finset.mem_univ o)
  iapply h; iexact H
theorem records_own (j : Fin 4) (i : Fin 15) (o : Dev nD) : records P K ⊢ cellInv ER (Rd P) (K (ownC j i o)) (ownC j i o) := by
  unfold records
  iintro ⟨-, #H, -⟩
  have h : (bigSep Finset.univ fun x : Dev nD × (Fin 4 × Fin 15) => cellInv ER (Rd P) (K (ownC x.2.1 x.2.2 x.1)) (ownC x.2.1 x.2.2 x.1))
      ⊢ cellInv ER (Rd P) (K (ownC j i o)) (ownC j i o) := bigSep_elim (Finset.mem_univ (o, (j, i)))
  iapply h; iexact H
theorem records_reached (o : Dev nD) : records P K ⊢ (reached ER (barC o) 0 : sProp 𝕄) := by
  unfold records
  iintro ⟨-, -, #H⟩
  have h : (bigSep Finset.univ fun o : Dev nD => reached ER (barC o) 0) ⊢ (reached ER (barC o) 0 : sProp 𝕄) :=
    bigSep_elim (Finset.mem_univ o)
  iapply h; iexact H
theorem ctx_records : ctx P K c ⊢ records P K := by unfold ctx; iintro ⟨#H, -, -⟩; iexact H
theorem ctx_lev : ctx P K c ⊢ (levAts L lv : sProp 𝕄) := by unfold ctx; iintro ⟨-, #H, -⟩; iexact H
theorem ctx_bar (o : Dev nD) : ctx P K c ⊢ cellInv ER (Rd P) (K (barC o)) (barC o) := (ctx_records P K c).trans (records_bar P K o)
theorem ctx_own (j : Fin 4) (i : Fin 15) (o : Dev nD) : ctx P K c ⊢ cellInv ER (Rd P) (K (ownC j i o)) (ownC j i o) :=
  (ctx_records P K c).trans (records_own P K j i o)
theorem ctx_reached (j : Fin 4) (i : Fin 15) : ctx P K c ⊢ (reached ER (ownC j i c) 0 : sProp 𝕄) := by
  unfold ctx
  iintro ⟨-, -, #H⟩
  have h : (bigSep Finset.univ fun x : Fin 4 × Fin 15 => reached ER (ownC x.1 x.2 c) 0) ⊢ (reached ER (ownC j i c) 0 : sProp 𝕄) :=
    bigSep_elim (Finset.mem_univ (j, i))
  iapply h; iexact H
theorem ctx_mayWait_bar : ctx P K c ⊢ (MayWait (c : Thread nD τ) (.reg barS) () (owedTo 1 c steps + owedTo 3 c steps) : sProp 𝕄) :=
  (ctx_lev P K c).trans (mayWait_bar c)
theorem ctx_mayWait_sum (i : Fin 15) : ctx P K c ⊢ (MayWait (c : Thread nD τ) (osem (1, i)) () (owedTo 3 c steps) : sProp 𝕄) :=
  (ctx_lev P K c).trans (mayWait_sum c i)
end Ctx

/-- What a device owes, whatever it has waited for. -/
def owing (c : Dev nD) (O : CellTallies nD τ sig Unit) : sProp 𝕄 := iprop(∃ W, owes (c : Thread nD τ) O W)

/-- The result buffer of device `c`, whole. -/
abbrev oPts (c : Dev nD) (f : FVec F S512x768 .f32) : sProp 𝕄 := oM.view.loc (c : Thread nD τ) ↦{fullShare} f

/-! ## A loop from its steps -/

/-- A loop whose step `i` turns `Pre i` into `Post i`, moving `J` down the list of steps left. -/
theorem foldr_run (c : Dev nD) {step : Fin 15 → KProg F → KProg F} {C : sProp 𝕄} [BI.Persistent C] {J : List (Fin 15) → sProp 𝕄}
    {Pre Post : Fin 15 → sProp 𝕄}
    (h : ∀ i l k Kt, iprop(C ∗ J (i :: l) ∗ Pre i ∗ (iprop(J l ∗ Post i) -∗ run c k Kt)) ⊢ run c (step i k) Kt) :
    ∀ l k Kt, iprop(C ∗ J l ∗ bigSepL l Pre ∗ (iprop(J [] ∗ bigSepL l Post) -∗ run c k Kt)) ⊢ run c (l.foldr step k) Kt := by
  intro l
  induction l with
  | nil =>
    intro k Kt
    rw [List.foldr_nil, bigSepL_nil, bigSepL_nil]
    iintro ⟨-, HJ, -, Hk⟩
    iapply Hk
    isplitl [HJ]; · iexact HJ
    iempintro
  | cons i l ih =>
    intro k Kt
    rw [List.foldr_cons, bigSepL_cons', bigSepL_cons']
    iintro ⟨#HC, HJ, ⟨Hp, Hps⟩, Hk⟩
    iapply (h i l (l.foldr step k) Kt)
    isplitr; · iexact HC
    isplitl [HJ]; · iexact HJ
    isplitl [Hp]; · iexact Hp
    iintro ⟨HJ, HP⟩
    iapply (ih k Kt)
    isplitr; · iexact HC
    isplitl [HJ]; · iexact HJ
    isplitl [Hps]; · iexact Hps
    iintro ⟨HJ, HPs⟩
    iapply Hk
    isplitl [HJ]; · iexact HJ
    isplitl [HP] <;> iassumption

/-! ## Slots -/

section Slots

variable (b : Memref sig .tc .vmem S15x32x768 .bf16) (i : Fin 15)

theorem slot_set : (slot b i).view.set = (b.access (slotR i)).set := View.set_reshape ..

theorem slot_read (c : Dev nD) (f : Buf (Elt F) (b.view.loc (c : Thread nD τ))) :
    (slot b i).view.read (Elt F) f = shapeCast S32x768 (b.view.readAt (Elt F) (slotR i).toLoadRect f) shapeCasts_S1x32x768_S32x768 := rfl

end Slots

/-- A received slot, read as a rectangle of its buffer. -/
theorem ofSlot_read (b : Memref sig .tc .vmem S15x32x768 .bf16) (i : Fin 15) (c : Dev nD) (f : Buf (Elt F) (b.view.loc (c : Thread nD τ))) :
    ofSlot ((b.access (slotR i)).read (Elt F) f) = up ((slot b i).view.read (Elt F) f) := rfl

/-! ## The steps -/

variable (P : Dev nD → FVec F S512x768 .f32) (K : GSem nD τ sig → ℕ) (c : Dev nD)

/-- A barrier signal: the own slots of the mirrored number go to the peer. -/
theorem bump_run (R : CellTallies nD τ sig Unit) (i : Fin 15) (l : List (Fin 15)) (k : KProg F) (Kt : PUnit → sProp 𝕄) :
    iprop(ctx P K c ∗ owing c (owedBar c (i :: l) + R)
        ∗ (dutyTok ER (barC (peer c i)) 0 i.rev ∗ free rM c i.rev ∗ free aM c i.rev)
        ∗ (iprop(owing c (owedBar c l + R) ∗ emp) -∗ run c k Kt))
      ⊢ run c (bump c i k) Kt := by
  unfold bump owing
  iintro ⟨#HC, ⟨%W, HO⟩, ⟨Ht, Hr, Ha⟩, Hk⟩
  iapply (Rounds.wp_signal 𝒱₀ ER (Rd P) (c : Thread nD τ) none (dst := (peer c i : Thread nD τ)) (sem := barS) (r := 0) (d := i.rev)
      (κ := K (barC (peer c i))) (mem_bar P (peer c i) i.rev) (amount_bar P (peer c i) i.rev) () (O₀ := owedBar c (i :: l) + R) (owedBar c l + R)
      (by rw [owedBar_cons]; exact add_right_comm _ _ _) (W := W)) $$ [HO Ht Hr Ha]
  · isplitr; · iapply (ctx_bar P K c (peer c i)); iexact HC
    isplitl [HO]; · iexact HO
    isplitl [Ht]; · iexact Ht
    isplitl [Hr Ha]
    · rw [payload_bar]; unfold barPay; rw [peer_rev, src_peer]
      isplitl [Hr]; · iexact Hr
      isplitl [Ha]; · iexact Ha
      isplitr; · iapply (ctx_reached P K c 1 i.rev); iexact HC
      iapply (ctx_reached P K c 3 i.rev); iexact HC
    · iapply ((ctx_records P K c).trans (records_reached P K (peer c i))); iexact HC
  iintro HO
  iapply Hk
  isplitl [HO]; · iexists W; iexact HO
  iempintro

/-- The contents a filled send slot carries. -/
theorem slot_filled (i : Fin 15) (f : Buf (Elt F) (sM.view.loc (c : Thread nD τ))) (w : FVec F S1x32x768 .bf16) :
    (slot sM i).view.read (Elt F) ((sM.access (slotR i)).write (Elt F) f w Finset.univ)
      = shapeCast S32x768 w shapeCasts_S1x32x768_S32x768 := by
  have h : sM.view.readAt (Elt F) (slotR i).toLoadRect ((sM.access (slotR i)).write (Elt F) f w Finset.univ) = w :=
    View.read_write_univ (v := sM.access (slotR i)) _ _
  rw [slot_read sM i c, h]

/-- A send of the first exchange. -/
theorem give_run (i : Fin 15) (l : List (Fin 15)) (k : KProg F) (Kt : PUnit → sProp 𝕄) :
    iprop(ctx P K c ∗ (oPts c (P c) ∗ owing c (owedTo 1 c (i :: l) + owedTo 3 c steps))
        ∗ (free sM c i ∗ free rM (peer c i) i ∗ reached ER (ownC 1 i (peer c i)) 0
            ∗ dutyTok ER (ownC 0 i c) 0 0 ∗ dutyTok ER (ownC 1 i (peer c i)) 0 0)
        ∗ (iprop((oPts c (P c) ∗ owing c (owedTo 1 c l + owedTo 3 c steps)) ∗ cred (tallyAt (ownC 0 i c) () N)) -∗ run c k Kt))
      ⊢ run c (give c i k) Kt := by
  unfold give owing free
  iintro ⟨#HC, ⟨Ho, ⟨%W, HO⟩⟩, ⟨⟨%fs, Hs⟩, ⟨%fd, Hd⟩, #Hrd, Hts, Htd⟩, Hk⟩
  iapply (wp_load 𝒱₀ (c : Thread nD τ) none Set.univ (m := oM) (S := Finset.univ) (Finset.subset_univ _)) $$ Ho
  iintro Ho
  rw [slot_set sM i]
  iapply (wp_load_rect 𝒱₀ (c : Thread nD τ) none Set.univ (m := sM) (r := slotR i) (Finset.Subset.refl _)) $$ Hs
  iintro Hs
  iapply (wp_store 𝒱₀ (c : Thread nD τ) none Set.univ (m := sM) (r := slotR i) (Mk := Finset.univ) (View.setOn_univ _).subset) $$ Hs
  iintro Hs
  rw [← slot_set sM i]
  iapply (Rounds.wp_send_pointsTo 𝒱₀ ER (Rd P) (c : Thread nD τ) none (c' := (peer c i : Thread nD τ)) (src := slot sM i) (dst := slot rM i)
      (sS := osem (0, i)) (sem := osem (1, i)) (q := fullShare)
      (fs := (sM.access (slotR i)).write (Elt F) fs (toSlot (giveV P c i)) Finset.univ) (κ₁ := K (ownC 0 i c)) (κ₂ := K (ownC 1 i (peer c i)))
      (r₁ := 0) (r₂ := 0) (d₁ := 0) (d₂ := 0) (fd := fd) (mem_own P c 0 i) (mem_own P (peer c i) 1 i)
      () () N rfl (amount_own P c 0 i 0) (amount_own P (peer c i) 1 i 0) (O₀ := owedTo 1 c (i :: l) + owedTo 3 c steps) (owedTo 1 c l + owedTo 3 c steps)
      (by rw [owedTo_cons]; exact add_right_comm _ _ _) (W := W)
      (by rw [payload_own]; show _ ⊢ free sM c i; unfold free; iintro H; iexists _; iexact H)
      (by
        rw [payload_own]; show _ ⊢ holds rM (peer c i) i (msg P (src (peer c i) i) i); rw [src_peer]; unfold holds
        iintro H; iexists _
        isplitl [H]; · iexact H
        ipureintro
        rw [View.read_write_univ, slot_filled]; rfl)) $$ [Hs Hd HO Hts Htd]
  · isplitr; · iapply (ctx_own P K c 0 i c); iexact HC
    isplitr; · iapply (ctx_own P K c 1 i (peer c i)); iexact HC
    isplitl [Hs]; · iexact Hs
    isplitl [Hd]; · iexact Hd
    isplitl [HO]; · iexact HO
    isplitl [Hts]; · iexact Hts
    isplitr; · iapply (ctx_reached P K c 0 i); iexact HC
    isplitl [Htd]; · iexact Htd
    iexact Hrd
  iintro ⟨Hc, HO⟩
  iapply Hk
  isplitr [Hc]
  · isplitl [Ho]; · iexact Ho
    iexists W; iexact HO
  iexact Hc

/-- A receive of the first exchange: the block joins the sum. -/
theorem sumStep_run (i : Fin 15) (a : FVec F S32x768 .f32) (k : FVec F S32x768 .f32 → KProg F) (Kt : PUnit → sProp 𝕄) :
    iprop(ctx P K c ∗ owing c (owedTo 3 c steps)
        ∗ (cred (tallyAt (ownC 1 i c) () N) ∗ atPos ER (ownC 1 i c) 0 ∅ 0)
        ∗ (iprop(owing c (owedTo 3 c steps) ∗ (free rM c i ∗ semVal (ownC 1 i c) 0)) -∗ run c (k (addf a (up (msg P (src c i) i)))) Kt))
      ⊢ run c (sumStep i a k) Kt := by
  unfold sumStep owing
  iintro ⟨#HC, ⟨%W, HO⟩, ⟨Hc, Hat⟩, Hk⟩
  iapply (Rounds.wp_wait_rest_token 𝒱₀ ER (Rd P) (c : Thread nD τ) none (κ := K (ownC 1 i c))
      (wpE_waitDma2_eq (src := slot sM i) (dst := slot rM i) 𝒱₀ (c : Thread nD τ) none Set.univ) (Set.mem_univ _) ()
      (O := owedTo 3 c steps) (W := W) (R := 0) (m := 0) (T := ∅)
      ((Nat.zero_add _).trans (expect_own P c 1 i).symm)) $$ [Hc HO Hat]
  · isplitr; · iapply (ctx_own P K c 1 i c); iexact HC
    isplitl [Hc]; · iexact Hc
    isplitl [HO]; · iexact HO
    isplitr
    · iapply (ctx_mayWait_sum P K c i); iexact HC
    iexact Hat
  iintro ⟨HO, Hat, -, Hpay⟩
  ihave Hp := (Entails.of_eq ((rest_own P c 1 i).trans (show ownPay P c i 1 = holds rM c i (msg P (src c i) i) from rfl))) $$ Hpay
  unfold holds
  icases Hp with ⟨%f, Hr, %hf⟩
  imod (close P (K (ownC 1 i c)) (ownC 1 i c)) $$ [Hat] with Hv
  · isplitr; · iapply (ctx_own P K c 1 i c); iexact HC
    iexact Hat
  rw [slot_set rM i]
  iapply (wp_load_rect 𝒱₀ (c : Thread nD τ) none Set.univ (m := rM) (r := slotR i) (Finset.Subset.refl _)) $$ Hr
  iintro Hr
  rw [← slot_set rM i]
  rw [ofSlot_read rM i c f, hf]
  iapply Hk
  isplitl [HO]; · iexists _; iexact HO
  isplitl [Hr]
  · unfold free; iexists f; iexact Hr
  iexact Hv

/-- All the receives of the first exchange. -/
theorem sums_run (l : List (Fin 15)) : ∀ (a : FVec F S32x768 .f32) (k : FVec F S32x768 .f32 → KProg F) (Kt : PUnit → sProp 𝕄),
    iprop(ctx P K c ∗ owing c (owedTo 3 c steps)
        ∗ bigSepL l (fun i => iprop(cred (tallyAt (ownC 1 i c) () N) ∗ atPos ER (ownC 1 i c) 0 ∅ 0))
        ∗ (iprop(owing c (owedTo 3 c steps) ∗ bigSepL l (fun i => iprop(free rM c i ∗ semVal (ownC 1 i c) 0))) -∗ run c (k (accOver P c l a)) Kt))
      ⊢ run c (sums l a k) Kt := by
  induction l with
  | nil =>
    intro a k Kt
    rw [bigSepL_nil, bigSepL_nil]
    iintro ⟨-, HO, -, Hk⟩
    iapply Hk
    isplitl [HO]; · iexact HO
    iempintro
  | cons i l ih =>
    intro a k Kt
    rw [bigSepL_cons', bigSepL_cons']
    iintro ⟨#HC, HO, ⟨Hp, Hps⟩, Hk⟩
    iapply (sumStep_run P K c i a (fun a' => sums l a' k) Kt)
    isplitr; · iexact HC
    isplitl [HO]; · iexact HO
    isplitl [Hp]; · iexact Hp
    iintro ⟨HO, HP⟩
    iapply (ih (addf a (up (msg P (src c i) i))) k Kt)
    isplitr; · iexact HC
    isplitl [HO]; · iexact HO
    isplitl [Hps]; · iexact Hps
    iintro ⟨HO, HPs⟩
    iapply Hk
    isplitl [HO]; · iexact HO
    isplitl [HP] <;> iassumption

/-- A send of the second exchange. -/
theorem share_run (i : Fin 15) (l : List (Fin 15)) (k : KProg F) (Kt : PUnit → sProp 𝕄) :
    iprop(ctx P K c ∗ owing c (owedTo 3 c (i :: l))
        ∗ (lent P c i ∗ (free aM (peer c i) i ∗ reached ER (ownC 3 i (peer c i)) 0)
            ∗ dutyTok ER (ownC 2 i c) 0 0 ∗ dutyTok ER (ownC 3 i (peer c i)) 0 0)
        ∗ (iprop(owing c (owedTo 3 c l) ∗ cred (tallyAt (ownC 2 i c) () N)) -∗ run c k Kt))
      ⊢ run c (share c i k) Kt := by
  unfold share owing free lent
  iintro ⟨#HC, ⟨%W, HO⟩, ⟨Hs, ⟨⟨%fd, Hd⟩, #Hrd⟩, Hts, Htd⟩, Hk⟩
  iapply (Rounds.wp_send_pointsTo 𝒱₀ ER (Rd P) (c : Thread nD τ) none (c' := (peer c i : Thread nD τ)) (src := dM) (dst := slot aM i)
      (sS := osem (2, i)) (sem := osem (3, i)) (q := lease i) (κ₁ := K (ownC 2 i c)) (κ₂ := K (ownC 3 i (peer c i)))
      (r₁ := 0) (r₂ := 0) (d₁ := 0) (d₂ := 0) (fd := fd) (mem_own P c 2 i) (mem_own P (peer c i) 3 i)
      () () N rfl (amount_own P c 2 i 0) (amount_own P (peer c i) 3 i 0) (owedTo 3 c l)
      (owedTo_cons 3 c i l) (W := W)
      (by rw [payload_own]; exact BI.Entails.refl _)
      (by
        rw [payload_own]; show _ ⊢ holds aM (peer c i) i (red P (src (peer c i) i)); rw [src_peer]; unfold holds
        iintro H; iexists _
        isplitl [H]; · iexact H
        ipureintro
        rw [View.read_write_univ]; exact View.read_whole ..)) $$ [Hs Hd HO Hts Htd]
  · isplitr; · iapply (ctx_own P K c 2 i c); iexact HC
    isplitr; · iapply (ctx_own P K c 3 i (peer c i)); iexact HC
    isplitl [Hs]; · iexact Hs
    isplitl [Hd]; · iexact Hd
    isplitl [HO]; · iexact HO
    isplitl [Hts]; · iexact Hts
    isplitr; · iapply (ctx_reached P K c 2 i); iexact HC
    isplitl [Htd]; · iexact Htd
    iexact Hrd
  iintro ⟨Hc, HO⟩
  iapply Hk
  isplitl [HO]; · iexists W; iexact HO
  iexact Hc

/-- A receive of the second exchange: the block is written to its rows. -/
theorem take_run (i : Fin 15) (l : List (Fin 15)) (k : KProg F) (Kt : PUnit → sProp 𝕄) :
    iprop(ctx P K c ∗ (owing c 0 ∗ ∃ g, oPts c g ∗ ⌜outOver P c (i :: l) g = out P c⌝)
        ∗ (cred (tallyAt (ownC 3 i c) () N) ∗ atPos ER (ownC 3 i c) 0 ∅ 0)
        ∗ (iprop((owing c 0 ∗ ∃ g, oPts c g ∗ ⌜outOver P c l g = out P c⌝) ∗ (free aM c i ∗ semVal (ownC 3 i c) 0)) -∗ run c k Kt))
      ⊢ run c (take c i k) Kt := by
  unfold take owing
  iintro ⟨#HC, ⟨⟨%W, HO⟩, %g, Ho, %hg⟩, ⟨Hc, Hat⟩, Hk⟩
  iapply (Rounds.wp_wait_rest_token 𝒱₀ ER (Rd P) (c : Thread nD τ) none (κ := K (ownC 3 i c))
      (wpE_waitDma2_eq (src := dM) (dst := slot aM i) 𝒱₀ (c : Thread nD τ) none Set.univ) (Set.mem_univ _) ()
      (O := 0) (W := W) (R := 0) (m := 0) (T := ∅)
      ((Nat.zero_add _).trans (expect_own P c 3 i).symm)) $$ [Hc HO Hat]
  · isplitr; · iapply (ctx_own P K c 3 i c); iexact HC
    isplitl [Hc]; · iexact Hc
    isplitl [HO]; · iexact HO
    isplitr; · rw [MayWait_zero]; iempintro
    iexact Hat
  iintro ⟨HO, Hat, -, Hpay⟩
  ihave Hp := (Entails.of_eq ((rest_own P c 3 i).trans (show ownPay P c i 3 = holds aM c i (red P (src c i)) from rfl))) $$ Hpay
  unfold holds
  icases Hp with ⟨%f, Hr, %hf⟩
  imod (close P (K (ownC 3 i c)) (ownC 3 i c)) $$ [Hat] with Hv
  · isplitr; · iapply (ctx_own P K c 3 i c); iexact HC
    iexact Hat
  rw [slot_set aM i]
  iapply (wp_load_rect 𝒱₀ (c : Thread nD τ) none Set.univ (m := aM) (r := slotR i) (Finset.Subset.refl _)) $$ Hr
  iintro Hr
  rw [← slot_set aM i]
  rw [ofSlot_read aM i c f, hf]
  iapply (wp_load 𝒱₀ (c : Thread nD τ) none Set.univ (m := oM) (S := Finset.univ) (Finset.subset_univ _)) $$ Ho
  iintro Ho
  iapply (wp_store 𝒱₀ (c : Thread nD τ) none Set.univ (m := oM) (r := takeR c i) (Mk := Finset.univ) (S := Finset.univ) (Finset.subset_univ _)) $$ Ho
  iintro Ho
  iapply Hk
  isplitl [HO Ho]
  · isplitl [HO]; · iexists _; iexact HO
    iexists _
    isplitl [Ho]; · iexact Ho
    ipureintro; exact hg
  isplitl [Hr]
  · unfold free; iexists f; iexact Hr
  iexact Hv

/-- The closing waits of a step. -/
theorem drain_run (i : Fin 15) (l : List (Fin 15)) (k : KProg F) (Kt : PUnit → sProp 𝕄) :
    iprop(ctx P K c ∗ owing c 0
        ∗ ((cred (tallyAt (ownC 0 i c) () N) ∗ atPos ER (ownC 0 i c) 0 ∅ 0) ∗ (cred (tallyAt (ownC 2 i c) () N) ∗ atPos ER (ownC 2 i c) 0 ∅ 0))
        ∗ (iprop(owing c 0 ∗ ((free sM c i ∗ semVal (ownC 0 i c) 0) ∗ (lent P c i ∗ semVal (ownC 2 i c) 0))) -∗ run c k Kt))
      ⊢ run c (drain i k) Kt := by
  unfold drain owing
  iintro ⟨#HC, ⟨%W, HO⟩, ⟨⟨Hc0, Hat0⟩, ⟨Hc2, Hat2⟩⟩, Hk⟩
  iapply (Rounds.wp_wait_rest_token 𝒱₀ ER (Rd P) (c : Thread nD τ) none (κ := K (ownC 0 i c))
      (wpE_waitDma2_eq (src := slot rM i) (dst := slot sM i) 𝒱₀ (c : Thread nD τ) none Set.univ) (Set.mem_univ _) ()
      (O := 0) (W := W) (R := 0) (m := 0) (T := ∅)
      ((Nat.zero_add _).trans (expect_own P c 0 i).symm)) $$ [Hc0 HO Hat0]
  · isplitr; · iapply (ctx_own P K c 0 i c); iexact HC
    isplitl [Hc0]; · iexact Hc0
    isplitl [HO]; · iexact HO
    isplitr; · rw [MayWait_zero]; iempintro
    iexact Hat0
  iintro ⟨HO, Hat0, -, Hpay⟩
  ihave Hs := (Entails.of_eq ((rest_own P c 0 i).trans (show ownPay P c i 0 = free sM c i from rfl))) $$ Hpay
  imod (close P (K (ownC 0 i c)) (ownC 0 i c)) $$ [Hat0] with Hv0
  · isplitr; · iapply (ctx_own P K c 0 i c); iexact HC
    iexact Hat0
  iapply (Rounds.wp_wait_rest_token 𝒱₀ ER (Rd P) (c : Thread nD τ) none (κ := K (ownC 2 i c))
      (wpE_waitDma2_eq (src := slot aM i) (dst := dM) 𝒱₀ (c : Thread nD τ) none Set.univ) (Set.mem_univ _) ()
      (O := 0) (R := 0) (m := 0) (T := ∅)
      ((Nat.zero_add _).trans (expect_own P c 2 i).symm)) $$ [Hc2 HO Hat2]
  · isplitr; · iapply (ctx_own P K c 2 i c); iexact HC
    isplitl [Hc2]; · iexact Hc2
    isplitl [HO]; · iexact HO
    isplitr; · rw [MayWait_zero]; iempintro
    iexact Hat2
  iintro ⟨HO, Hat2, -, Hpay⟩
  ihave Hd := (Entails.of_eq ((rest_own P c 2 i).trans (show ownPay P c i 2 = lent P c i from rfl))) $$ Hpay
  imod (close P (K (ownC 2 i c)) (ownC 2 i c)) $$ [Hat2] with Hv2
  · isplitr; · iapply (ctx_own P K c 2 i c); iexact HC
    iexact Hat2
  iapply Hk
  isplitl [HO]; · iexists _; iexact HO
  isplitl [Hs Hv0]; · isplitl [Hs] <;> iassumption
  isplitl [Hd] <;> iassumption

end Cert.Proof
-- ==== Proof.Body.lean ====
/-
  The kernel's body, run on one device: from the buffers, tokens and credits a device starts with to the result buffer at
  `out P c`, every slot and every counter back.
-/
module

public import proofs.«01_k».proof.Proof.Steps
public import Idealize.ShloMosaic.Harness.Basic

@[expose] public section

set_option maxRecDepth 10000

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- One thing per step. -/
abbrev all (Φ : Fin 15 → sProp 𝕄) : sProp 𝕄 := bigSep Finset.univ Φ

theorem all_eq (Φ : Fin 15 → sProp 𝕄) : all Φ = bigSepL steps Φ :=
  bigSep_univ_eq_bigSepL steps (by decide) (by decide) Φ
theorem all_pair (Φ Ψ : Fin 15 → sProp 𝕄) : all (fun i => iprop(Φ i ∗ Ψ i)) = iprop(all Φ ∗ all Ψ) := bigSep_sep _ _ _
theorem all_emp : all (fun _ => (iprop(emp) : sProp 𝕄)) = iprop(emp) := bigSep_emp_const _
theorem all_rev (Φ : Fin 15 → sProp 𝕄) : all (fun i => Φ i.rev) = all Φ := (bigSep_univ_equiv Fin.revPerm Φ).symm

/-- A loop over all the steps, from its step. -/
theorem loop_run (c : Dev nD) {step : Fin 15 → KProg F → KProg F} {C : sProp 𝕄} [BI.Persistent C] {J : List (Fin 15) → sProp 𝕄}
    {Pre Post : Fin 15 → sProp 𝕄}
    (h : ∀ i l k Kt, iprop(C ∗ J (i :: l) ∗ Pre i ∗ (iprop(J l ∗ Post i) -∗ run c k Kt)) ⊢ run c (step i k) Kt) (k : KProg F)
    (Kt : PUnit → sProp 𝕄) :
    iprop(C ∗ J steps ∗ all Pre ∗ (iprop(J [] ∗ all Post) -∗ run c k Kt)) ⊢ run c (steps.foldr step k) Kt := by
  rw [all_eq, all_eq]; exact foldr_run c h steps k Kt

/-! ## The stored sum, lent in shares -/

theorem bigSep_last {n : ℕ} (Φ : Fin (n + 1) → sProp 𝕄) :
    bigSep Finset.univ Φ = iprop((bigSep Finset.univ fun i : Fin n => Φ i.castSucc) ∗ Φ (Fin.last n)) := by
  rw [Fin.univ_castSuccEmb, Finset.cons_eq_insert, bigSep_insert (by simp [Fin.castSucc_ne_last]), BI.bigSep_map]
  show (iprop(Φ (Fin.last n) ∗ bigSep Finset.univ fun i : Fin n => Φ i.castSucc) : sProp 𝕄) = _
  have h : ∀ A B : sProp 𝕄, iprop(A ∗ B) ⊢ iprop(B ∗ A) := fun A B => by iintro ⟨H1, H2⟩; isplitl [H2] <;> iassumption
  exact BI.Entails.antisymm (h _ _) (h _ _)

/-- The share of the stored sum no step lends. -/
def stay (P : Dev nD → FVec F S512x768 .f32) (c : Dev nD) : sProp 𝕄 :=
  dM.view.loc (c : Thread nD τ) ↦[dM.view.set]{ShareLeaves.leaf 4 fullShare (Fin.last 15)} (red P c)

theorem leaves (c : Dev nD) (r : Buf (Elt F) (dM.view.loc (c : Thread nD τ))) :
    (dM.view.loc (c : Thread nD τ) ↦{fullShare} r : sProp 𝕄)
      = iprop(all (fun i => dM.view.loc (c : Thread nD τ) ↦{ShareLeaves.leaf 4 fullShare i.castSucc} r)
        ∗ (dM.view.loc (c : Thread nD τ) ↦{ShareLeaves.leaf 4 fullShare (Fin.last 15)} r)) :=
  (ShareLeaves.pointsTo_leaves (ℓ := dM.view.loc (c : Thread nD τ)) Finset.univ r 4 fullShare).trans
    (bigSep_last (n := 15) fun i => dM.view.loc (c : Thread nD τ) ↦{ShareLeaves.leaf 4 fullShare i} r)

theorem lend (P : Dev nD → FVec F S512x768 .f32) (c : Dev nD) :
    (dM.view.loc (c : Thread nD τ) ↦{fullShare} (red P c) : sProp 𝕄) = iprop(all (lent P c) ∗ stay P c) := by
  have h : (dM.view.set : Finset _) = Finset.univ := View.set_whole ..
  unfold lent stay lease
  rw [h]
  exact leaves c (red P c)

/-! ## The whole body -/

/-- What a device pays with: its duty tokens. -/
def tokens (c : Dev nD) : sProp 𝕄 :=
  iprop(all (fun i => dutyTok ER (barC (peer c i)) 0 i.rev)
    ∗ all (fun i => dutyTok ER (ownC 0 i c) 0 0) ∗ all (fun i => dutyTok ER (ownC 1 i (peer c i)) 0 0)
    ∗ all (fun i => dutyTok ER (ownC 2 i c) 0 0) ∗ all (fun i => dutyTok ER (ownC 3 i (peer c i)) 0 0))

/-- What it waits with: its positions, and credit for what others send it. -/
def waits (c : Dev nD) : sProp 𝕄 :=
  iprop((atPos ER (barC c) 0 ∅ 0 ∗ cred (tallyAt (barC c) () 15))
    ∗ all (fun i => atPos ER (ownC 0 i c) 0 ∅ 0) ∗ all (fun i => iprop(cred (tallyAt (ownC 1 i c) () N) ∗ atPos ER (ownC 1 i c) 0 ∅ 0))
    ∗ all (fun i => atPos ER (ownC 2 i c) 0 ∅ 0) ∗ all (fun i => iprop(cred (tallyAt (ownC 3 i c) () N) ∗ atPos ER (ownC 3 i c) 0 ∅ 0)))

/-- The buffers the exchanges go through. -/
def scratch (c : Dev nD) : sProp 𝕄 :=
  iprop(all (free sM c) ∗ all (free rM c) ∗ (∃ d : Buf (Elt F) (dM.view.loc (c : Thread nD τ)), dM.view.loc (c : Thread nD τ) ↦{fullShare} d)
    ∗ all (free aM c))

/-- The counters, all back at zero. -/
def zeros (c : Dev nD) : sProp 𝕄 :=
  iprop(semVal (barC c) 0 ∗ all (fun i => semVal (ownC 0 i c) 0) ∗ all (fun i => semVal (ownC 1 i c) 0)
    ∗ all (fun i => semVal (ownC 2 i c) 0) ∗ all (fun i => semVal (ownC 3 i c) 0))

/-- The five blocks read. -/
def inputs (c : Dev nD) (x : FVec F S512x768 .bf16) (wq : FVec F S768x512 .bf16) (wo : FVec F S512x768 .bf16)
    (wk wv : FVec F S768x128 .bf16) : sProp 𝕄 :=
  iprop((xM.view.loc (c : Thread nD τ) ↦{fullShare} x) ∗ (wqM.view.loc (c : Thread nD τ) ↦{fullShare} wq)
    ∗ (woM.view.loc (c : Thread nD τ) ↦{fullShare} wo) ∗ (wkM.view.loc (c : Thread nD τ) ↦{fullShare} wk)
    ∗ (wvM.view.loc (c : Thread nD τ) ↦{fullShare} wv))

theorem zero_zero : (![0, 0] : Fin 2 → ℕ) = fun _ => 0 := by decide

/-! Whole buffers loaded and stored. -/

theorem load_x (x : FVec F S512x768 .bf16) :
    xM.view.readAt (Elt F) (Rect.unit (s := S512x768) ![0, 0] S512x768.size inb_S512x768_S512x768_0_0).toLoadRect x = x :=
  Memref.readAt_unit_zero (Elt F) cc0_stg0_0 zero_zero _ x
theorem load_wq (x : FVec F S768x512 .bf16) :
    wqM.view.readAt (Elt F) (Rect.unit (s := S768x512) ![0, 0] S768x512.size inb_S768x512_S768x512_0_0).toLoadRect x = x :=
  Memref.readAt_unit_zero (Elt F) cc0_stg1_0 zero_zero _ x
theorem load_o (x : FVec F S512x768 .bf16) :
    woM.view.readAt (Elt F) (Rect.unit (s := S512x768) ![0, 0] S512x768.size inb_S512x768_S512x768_0_0).toLoadRect x = x :=
  Memref.readAt_unit_zero (Elt F) cc0_stg2_0 zero_zero _ x
theorem load_wk (x : FVec F S768x128 .bf16) :
    wkM.view.readAt (Elt F) (Rect.unit (s := S768x128) ![0, 0] S768x128.size inb_S768x128_S768x128_0_0).toLoadRect x = x :=
  Memref.readAt_unit_zero (Elt F) cc0_stg3_0 zero_zero _ x
theorem load_wv (x : FVec F S768x128 .bf16) :
    wvM.view.readAt (Elt F) (Rect.unit (s := S768x128) ![0, 0] S768x128.size inb_S768x128_S768x128_0_0).toLoadRect x = x :=
  Memref.readAt_unit_zero (Elt F) cc0_stg4_0 zero_zero _ x
theorem store_o (f w : FVec F S512x768 .f32) :
    (oM.access (Rect.unit (s := S512x768) ![0, 0] S512x768.size inb_S512x768_S512x768_0_0)).write (Elt F) f w Finset.univ = w :=
  Memref.write_access_unit_zero_univ (Elt F) cc0_stg5_0 zero_zero _ f w
theorem store_d (f w : FVec F S32x768 .bf16) :
    (dM.access (Rect.unit (s := S32x768) ![0, 0] S32x768.size inb_S32x768_S32x768_0_0)).write (Elt F) f w Finset.univ = w :=
  Memref.write_access_unit_zero_univ (Elt F) cc0_scratch2 zero_zero _ f w

section Parts

variable (P : Dev nD → FVec F S512x768 .f32) (K : GSem nD τ sig → ℕ) (c : Dev nD)

/-- The partial product computed into the result buffer. -/
theorem compute_run {x : FVec F S512x768 .bf16} {wq : FVec F S768x512 .bf16} {wo : FVec F S512x768 .bf16}
    {wk wv : FVec F S768x128 .bf16} (hP : P c = part x wq wk wv wo) (f : FVec F S512x768 .f32) (k : KProg F) (Kt : PUnit → sProp 𝕄) :
    iprop(inputs c x wq wo wk wv ∗ oPts c f ∗ (iprop(inputs c x wq wo wk wv ∗ oPts c (P c)) -∗ run c k Kt)) ⊢ run c (compute k) Kt := by
  unfold compute inputs
  iintro ⟨⟨Hx, Hq, Ho, Hk, Hv⟩, HO, Hc⟩
  iapply (wp_load 𝒱₀ (c : Thread nD τ) none Set.univ (m := wqM) (S := Finset.univ) (Finset.subset_univ _)) $$ Hq
  iintro Hq
  iapply (wp_load 𝒱₀ (c : Thread nD τ) none Set.univ (m := wkM) (S := Finset.univ) (Finset.subset_univ _)) $$ Hk
  iintro Hk
  iapply (wp_load 𝒱₀ (c : Thread nD τ) none Set.univ (m := wvM) (S := Finset.univ) (Finset.subset_univ _)) $$ Hv
  iintro Hv
  iapply (wp_load 𝒱₀ (c : Thread nD τ) none Set.univ (m := woM) (S := Finset.univ) (Finset.subset_univ _)) $$ Ho
  iintro Ho
  iapply (wp_load 𝒱₀ (c : Thread nD τ) none Set.univ (m := xM) (S := Finset.univ) (Finset.subset_univ _)) $$ Hx
  iintro Hx
  iapply (wp_load 𝒱₀ (c : Thread nD τ) none Set.univ (m := oM) (S := Finset.univ) (Finset.subset_univ _)) $$ HO
  iintro HO
  iapply (wp_store 𝒱₀ (c : Thread nD τ) none Set.univ (m := oM) (r := Rect.unit (s := S512x768) ![0, 0] S512x768.size inb_S512x768_S512x768_0_0) (Mk := Finset.univ) (S := Finset.univ) (Finset.subset_univ _)) $$ HO
  iintro HO
  rw [store_o, load_x, load_wq, load_o, load_wk, load_wv, ← hP]
  iapply Hc
  isplitr [HO]
  · isplitl [Hx]; · iexact Hx
    isplitl [Hq]; · iexact Hq
    isplitl [Ho]; · iexact Ho
    isplitl [Hk] <;> iassumption
  iexact HO

/-- The own rows and all arriving blocks summed. -/
theorem reduce_run (k : FVec F S32x768 .f32 → KProg F) (Kt : PUnit → sProp 𝕄) :
    iprop(ctx P K c ∗ (oPts c (P c) ∗ owing c (owedTo 3 c steps))
        ∗ all (fun i => iprop(cred (tallyAt (ownC 1 i c) () N) ∗ atPos ER (ownC 1 i c) 0 ∅ 0))
        ∗ (iprop((oPts c (P c) ∗ owing c (owedTo 3 c steps)) ∗ all (free rM c) ∗ all (fun i => semVal (ownC 1 i c) 0)) -∗ run c (k (acc P c)) Kt))
      ⊢ run c (reduce c k) Kt := by
  unfold reduce
  rw [← all_pair, all_eq, all_eq]
  iintro ⟨#HC, ⟨Ho, HO⟩, Hw, Hk⟩
  iapply (wp_load 𝒱₀ (c : Thread nD τ) none Set.univ (m := oM) (S := Finset.univ) (Finset.subset_univ _)) $$ Ho
  iintro Ho
  iapply (sums_run P K c steps _ k Kt)
  isplitr; · iexact HC
  isplitl [HO]; · iexact HO
  isplitl [Hw]; · iexact Hw
  iintro ⟨HO, Hr⟩
  iapply Hk
  isplitr [Hr]
  · isplitl [Ho] <;> iassumption
  iexact Hr

/-- The sum stored to be sent, and its shares. -/
theorem settle_run (k : KProg F) (Kt : PUnit → sProp 𝕄) :
    iprop((∃ d : Buf (Elt F) (dM.view.loc (c : Thread nD τ)), dM.view.loc (c : Thread nD τ) ↦{fullShare} d)
        ∗ (iprop(all (lent P c) ∗ stay P c) -∗ run c k Kt)) ⊢ run c (settle (acc P c) k) Kt := by
  unfold settle
  rw [← lend]
  iintro ⟨⟨%d, Hd⟩, Hk⟩
  iapply (wp_load 𝒱₀ (c : Thread nD τ) none Set.univ (m := dM) (S := Finset.univ) (Finset.subset_univ _)) $$ Hd
  iintro Hd
  iapply (wp_store 𝒱₀ (c : Thread nD τ) none Set.univ (m := dM) (r := Rect.unit (s := S32x768) ![0, 0] S32x768.size inb_S32x768_S32x768_0_0) (Mk := Finset.univ) (S := Finset.univ) (Finset.subset_univ _)) $$ Hd
  iintro Hd
  rw [store_d]
  iapply Hk
  iexact Hd

/-- The sum kept in the own rows. -/
theorem keep_run (k : KProg F) (Kt : PUnit → sProp 𝕄) :
    iprop(oPts c (P c) ∗ (oPts c (kept P c) -∗ run c k Kt)) ⊢ run c (keep c (acc P c) k) Kt := by
  unfold keep
  iintro ⟨Ho, Hk⟩
  iapply (wp_load 𝒱₀ (c : Thread nD τ) none Set.univ (m := oM) (S := Finset.univ) (Finset.subset_univ _)) $$ Ho
  iintro Ho
  iapply (wp_store 𝒱₀ (c : Thread nD τ) none Set.univ (m := oM) (r := ownR c) (Mk := Finset.univ) (S := Finset.univ) (Finset.subset_univ _)) $$ Ho
  iintro Ho
  iapply Hk
  iexact Ho

/-- The end. -/
theorem ret_run (Kt : PUnit → sProp 𝕄) : Kt ⟨⟩ ⊢ run c (Prog.ret ⟨⟩) Kt := by
  unfold run
  rw [wp_ret]
  iintro H
  imodintro
  iexact H

/-- The barrier's wait: the peers' receive slots arrive. -/
theorem barrier_run (k : PUnit → KProg F) (Kt : PUnit → sProp 𝕄) :
    iprop(ctx P K c ∗ owing c (owedTo 1 c steps + owedTo 3 c steps) ∗ (atPos ER (barC c) 0 ∅ 0 ∗ cred (tallyAt (barC c) () 15))
        ∗ (iprop(owing c (owedTo 1 c steps + owedTo 3 c steps) ∗ semVal (barC c) 0 ∗ all (barPay c)) -∗ run c (k ⟨⟩) Kt))
      ⊢ run c (.op (.semWait barS 15) k) Kt := by
  unfold owing
  iintro ⟨#HC, ⟨%W, HO⟩, ⟨Hat, Hc⟩, Hk⟩
  iapply (Rounds.wp_wait_rest_token 𝒱₀ ER (Rd P) (c : Thread nD τ) none (κ := K (barC c))
      (wpE_semWait_eq 𝒱₀ (c : Thread nD τ) none Set.univ) (Set.mem_univ _) () (O := owedTo 1 c steps + owedTo 3 c steps) (W := W) (R := 0) (m := 0) (T := ∅)
      ((Nat.zero_add 15).trans (expect_bar P c).symm)) $$ [Hc HO Hat]
  · isplitr; · iapply (ctx_bar P K c c); iexact HC
    isplitl [Hc]; · iexact Hc
    isplitl [HO]; · iexact HO
    isplitr; · iapply (ctx_mayWait_bar P K c); iexact HC
    iexact Hat
  iintro ⟨HO, Hat, -, Hpay⟩
  ihave Hp := (Entails.of_eq (rest_bar P c)) $$ Hpay
  imod (close P (K (barC c)) (barC c)) $$ [Hat] with Hv
  · isplitr; · iapply (ctx_bar P K c c); iexact HC
    iexact Hat
  iapply Hk
  isplitl [HO]; · iexists _; iexact HO
  isplitl [Hv] <;> iassumption

/-! The loops, what they take and give gathered by kind. -/

theorem bumps_run (R : CellTallies nD τ sig Unit) (k : KProg F) (Kt : PUnit → sProp 𝕄) :
    iprop(ctx P K c ∗ owing c (owedBar c steps + R)
        ∗ (all (fun i => dutyTok ER (barC (peer c i)) 0 i.rev) ∗ all (free rM c) ∗ all (free aM c))
        ∗ (iprop(owing c R ∗ emp) -∗ run c k Kt)) ⊢ run c (steps.foldr (bump c) k) Kt := by
  have h := loop_run c (J := fun l => owing c (owedBar c l + R)) (bump_run P K c R) k Kt
  rw [all_pair, all_pair, all_rev (free rM c), all_rev (free aM c), all_emp, owedBar_nil, zero_add] at h
  exact h

theorem gives_run (k : KProg F) (Kt : PUnit → sProp 𝕄) :
    iprop(ctx P K c ∗ (oPts c (P c) ∗ owing c (owedTo 1 c steps + owedTo 3 c steps))
        ∗ (all (free sM c) ∗ all (fun i => free rM (peer c i) i) ∗ all (fun i => reached ER (ownC 1 i (peer c i)) 0)
            ∗ all (fun i => dutyTok ER (ownC 0 i c) 0 0) ∗ all (fun i => dutyTok ER (ownC 1 i (peer c i)) 0 0))
        ∗ (iprop((oPts c (P c) ∗ owing c (owedTo 3 c steps)) ∗ all (fun i => cred (tallyAt (ownC 0 i c) () N))) -∗ run c k Kt))
      ⊢ run c (steps.foldr (give c) k) Kt := by
  have h := loop_run c (J := fun l => iprop(oPts c (P c) ∗ owing c (owedTo 1 c l + owedTo 3 c steps))) (give_run P K c) k Kt
  rw [all_pair, all_pair, all_pair, all_pair, owedTo_nil, zero_add] at h
  exact h

theorem shares_run (k : KProg F) (Kt : PUnit → sProp 𝕄) :
    iprop(ctx P K c ∗ owing c (owedTo 3 c steps)
        ∗ (all (lent P c) ∗ (all (fun i => free aM (peer c i) i) ∗ all (fun i => reached ER (ownC 3 i (peer c i)) 0))
            ∗ all (fun i => dutyTok ER (ownC 2 i c) 0 0) ∗ all (fun i => dutyTok ER (ownC 3 i (peer c i)) 0 0))
        ∗ (iprop(owing c 0 ∗ all (fun i => cred (tallyAt (ownC 2 i c) () N))) -∗ run c k Kt))
      ⊢ run c (steps.foldr (share c) k) Kt := by
  have h := loop_run c (J := fun l => owing c (owedTo 3 c l)) (share_run P K c) k Kt
  rw [all_pair, all_pair, all_pair, all_pair, owedTo_nil] at h
  exact h

theorem takes_run (k : KProg F) (Kt : PUnit → sProp 𝕄) :
    iprop(ctx P K c ∗ (owing c 0 ∗ ∃ g, oPts c g ∗ ⌜outOver P c steps g = out P c⌝)
        ∗ all (fun i => iprop(cred (tallyAt (ownC 3 i c) () N) ∗ atPos ER (ownC 3 i c) 0 ∅ 0))
        ∗ (iprop((owing c 0 ∗ ∃ g, oPts c g ∗ ⌜outOver P c [] g = out P c⌝) ∗ all (free aM c) ∗ all (fun i => semVal (ownC 3 i c) 0)) -∗ run c k Kt))
      ⊢ run c (steps.foldr (take c) k) Kt := by
  have h := loop_run c (J := fun l => iprop(owing c 0 ∗ ∃ g, oPts c g ∗ ⌜outOver P c l g = out P c⌝)) (take_run P K c) k Kt
  rw [all_pair (free aM c)] at h
  exact h

theorem drains_run (k : KProg F) (Kt : PUnit → sProp 𝕄) :
    iprop(ctx P K c ∗ owing c 0
        ∗ ((all (fun i => cred (tallyAt (ownC 0 i c) () N)) ∗ all (fun i => atPos ER (ownC 0 i c) 0 ∅ 0))
            ∗ (all (fun i => cred (tallyAt (ownC 2 i c) () N)) ∗ all (fun i => atPos ER (ownC 2 i c) 0 ∅ 0)))
        ∗ (iprop(owing c 0 ∗ ((all (free sM c) ∗ all (fun i => semVal (ownC 0 i c) 0)) ∗ (all (lent P c) ∗ all (fun i => semVal (ownC 2 i c) 0)))) -∗ run c k Kt))
      ⊢ run c (steps.foldr drain k) Kt := by
  have h := loop_run c (J := fun _ => owing c 0) (drain_run P K c) k Kt
  rw [all_pair, all_pair, all_pair, all_pair, all_pair, all_pair] at h
  exact h

end Parts

theorem barPay_all (c : Dev nD) : all (barPay c)
    = iprop(all (fun i => free rM (peer c i) i) ∗ all (fun i => free aM (peer c i) i)
      ∗ all (fun i => reached ER (ownC 1 i (peer c i)) 0) ∗ (all (fun i => reached ER (ownC 3 i (peer c i)) 0) : sProp 𝕄)) := by
  unfold barPay
  rw [all_pair, all_pair, all_pair]

/-- The body. -/
theorem text_run (P : Dev nD → FVec F S512x768 .f32) (K : GSem nD τ sig → ℕ) (c : Dev nD) {x : FVec F S512x768 .bf16} {wq : FVec F S768x512 .bf16}
    {wo : FVec F S512x768 .bf16} {wk wv : FVec F S768x128 .bf16} (hP : P c = part x wq wk wv wo) (f : FVec F S512x768 .f32)
    (Kt : PUnit → sProp 𝕄) :
    iprop(ctx P K c ∗ owing c (O₀ c) ∗ tokens c ∗ waits c ∗ scratch c ∗ inputs c x wq wo wk wv ∗ oPts c f
        ∗ (iprop(owing c 0 ∗ scratch c ∗ zeros c ∗ inputs c x wq wo wk wv ∗ oPts c (out P c)) -∗ Kt ⟨⟩))
      ⊢ run c (text c) Kt := by
  unfold text tokens waits scratch
  iintro ⟨#HC, HO, ⟨HtB, Ht0, Ht1, Ht2, Ht3⟩, ⟨HwB, Hw0, Hw1, Hw2, Hw3⟩, ⟨HsS, HsR, HsD, HsA⟩, Hin, Hout, HK⟩
  -- the barrier's signals
  iapply (bumps_run P K c (owedTo 1 c steps + owedTo 3 c steps) (text₂ c) Kt)
  isplitr; · iexact HC
  isplitl [HO]; · iexact HO
  isplitl [HtB HsR HsA]
  · isplitl [HtB]; · iexact HtB
    isplitl [HsR] <;> iassumption
  iintro ⟨HO, -⟩
  -- its wait
  unfold text₂
  iapply (barrier_run P K c)
  isplitr; · iexact HC
  isplitl [HO]; · iexact HO
  isplitl [HwB]; · iexact HwB
  rw [barPay_all]
  iintro ⟨HO, HvB, HpR, HpA, Hr1, Hr3⟩
  -- the partial product
  iapply (compute_run P c hP f)
  isplitl [Hin]; · iexact Hin
  isplitl [Hout]; · iexact Hout
  iintro ⟨Hin, Hout⟩
  -- the first exchange's sends
  iapply (gives_run P K c)
  isplitr; · iexact HC
  isplitl [Hout HO]; · isplitl [Hout] <;> iassumption
  isplitl [HsS HpR Hr1 Ht0 Ht1]
  · isplitl [HsS]; · iexact HsS
    isplitl [HpR]; · iexact HpR
    isplitl [Hr1]; · iexact Hr1
    isplitl [Ht0] <;> iassumption
  iintro ⟨HJ, Hc0⟩
  -- the sum
  iapply (reduce_run P K c)
  isplitr; · iexact HC
  isplitl [HJ]; · iexact HJ
  isplitl [Hw1]; · iexact Hw1
  iintro ⟨⟨Hout, HO⟩, HsR, Hv1⟩
  iapply (settle_run P c)
  isplitl [HsD]; · iexact HsD
  iintro ⟨Hl, Hstay⟩
  -- the second exchange's sends
  iapply (shares_run P K c)
  isplitr; · iexact HC
  isplitl [HO]; · iexact HO
  isplitl [Hl HpA Hr3 Ht2 Ht3]
  · isplitl [Hl]; · iexact Hl
    isplitl [HpA Hr3]; · isplitl [HpA] <;> iassumption
    isplitl [Ht2] <;> iassumption
  iintro ⟨HO, Hc2⟩
  iapply (keep_run P c)
  isplitl [Hout]; · iexact Hout
  iintro Hout
  -- the gathering
  iapply (takes_run P K c)
  isplitr; · iexact HC
  isplitl [HO Hout]
  · isplitl [HO]; · iexact HO
    iexists _
    isplitl [Hout]; · iexact Hout
    ipureintro; rfl
  isplitl [Hw3]; · iexact Hw3
  iintro ⟨⟨HO, %g, Hout, %hg⟩, HsA, Hv3⟩
  have hg' : g = out P c := hg
  subst hg'
  -- the closing waits
  iapply (drains_run P K c)
  isplitr; · iexact HC
  isplitl [HO]; · iexact HO
  isplitl [Hc0 Hw0 Hc2 Hw2]
  · isplitl [Hc0 Hw0]; · isplitl [Hc0] <;> iassumption
    isplitl [Hc2] <;> iassumption
  iintro ⟨HO, ⟨HsS, Hv0⟩, ⟨Hl, Hv2⟩⟩
  iapply (ret_run c Kt)
  iapply HK
  isplitl [HO]; · iexact HO
  isplitl [HsS HsR HsA Hl Hstay]
  · isplitl [HsS]; · iexact HsS
    isplitl [HsR]; · iexact HsR
    isplitl [Hl Hstay]
    · iexists _
      rw [lend]
      isplitl [Hl] <;> iassumption
    iexact HsA
  isplitr [Hin Hout]
  · unfold zeros
    isplitl [HvB]; · iexact HvB
    isplitl [Hv0]; · iexact Hv0
    isplitl [Hv1]; · iexact Hv1
    isplitl [Hv2] <;> iassumption
  isplitl [Hin] <;> iassumption

end Cert.Proof
-- ==== Proof.Slots.lean ====
/-
  The buffers of fifteen slots, split into their slots and joined again; things indexed by an array of semaphores and a
  step, listed array by array.
-/
module

public import proofs.«01_k».proof.Proof.Body
public import Idealize.ShloMosaic.Lib.Ring

@[expose] public section

set_option maxRecDepth 10000

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Cert.KernelIdeal Cert.KernelIdeal.Gen

variable {F : FTy → Type} [FloatOps F]

local notation "𝕄" => MT nD τ sig Unit (Elt F) ℕ UU ℕ

/-! ## Slots -/

theorem slots_disjoint (i i' : Fin 15) (h : i ≠ i') : Disjoint (slotR i).set (slotR i').set :=
  lead_disjoint (s := S15x32x768) (0 : Fin 3) 1 (fun i : Fin 15 => ![i.val, 0, 0]) S1x32x768.size slot_inb
    (fun b => by show b.val = 1 * b.val; rw [one_mul]) rfl i i' h
theorem slots_cover : Finset.univ.biUnion (fun i => (slotR i).set) = Finset.univ :=
  lead_cover (s := S15x32x768) (0 : Fin 3) 1 (fun i : Fin 15 => ![i.val, 0, 0]) S1x32x768.size slot_inb
    (fun b => by show b.val = 1 * b.val; rw [one_mul])
    (fun b a ha => by
      fin_cases a
      · exact absurd rfl ha
      · rfl
      · rfl) rfl
    (fun a ha => by
      fin_cases a
      · exact absurd rfl ha
      · rfl
      · rfl) rfl

/-- The elements of slot `i`, among the buffer's. -/
abbrev slotSet (b : Memref sig .tc .vmem S15x32x768 .bf16) (i : Fin 15) : Finset b.view.ty.Idx := (slot b i).view.set

/-- A buffer whose slots are its blocks. -/
structure Slotted (b : Memref sig .tc .vmem S15x32x768 .bf16) : Prop where
  apart : ∀ i i', i ≠ i' → Disjoint (slotSet b i) (slotSet b i')
  cover : Finset.univ.biUnion (slotSet b) = Finset.univ

theorem slotSet_s (i : Fin 15) : slotSet sM i = (slotR i).set :=
  (slot_set sM i).trans (View.set_slice_whole cc0_scratch0 (slotR i))
theorem slotted_s : Slotted sM where
  apart i i' h := by
    rw [slotSet_s, slotSet_s]; exact slots_disjoint i i' h
  cover := (Finset.biUnion_congr rfl fun i _ => slotSet_s i).trans slots_cover
theorem slotSet_r (i : Fin 15) : slotSet rM i = (slotR i).set :=
  (slot_set rM i).trans (View.set_slice_whole cc0_scratch1 (slotR i))
theorem slotted_r : Slotted rM where
  apart i i' h := by
    rw [slotSet_r, slotSet_r]; exact slots_disjoint i i' h
  cover := (Finset.biUnion_congr rfl fun i _ => slotSet_r i).trans slots_cover
theorem slotSet_a (i : Fin 15) : slotSet aM i = (slotR i).set :=
  (slot_set aM i).trans (View.set_slice_whole cc0_scratch3 (slotR i))
theorem slotted_a : Slotted aM where
  apart i i' h := by
    rw [slotSet_a, slotSet_a]; exact slots_disjoint i i' h
  cover := (Finset.biUnion_congr rfl fun i _ => slotSet_a i).trans slots_cover

/-- A buffer of fifteen slots at some contents is its slots, each at some contents; -/
theorem split {b : Memref sig .tc .vmem S15x32x768 .bf16} (hb : Slotted b) (c : Dev nD) :
    iprop(∃ f : Buf (Elt F) (b.view.loc (c : Thread nD τ)), b.view.loc (c : Thread nD τ) ↦{fullShare} f) ⊢ (all (free b c) : sProp 𝕄) := by
  have h (f : Buf (Elt F) (b.view.loc (c : Thread nD τ))) : (b.view.loc (c : Thread nD τ) ↦{fullShare} f : sProp 𝕄) ⊢ all (free b c) := by
    rw [pointsTo_blocks (ℓ := b.view.loc (c : Thread nD τ)) (slotSet b) hb.apart hb.cover f]
    refine bigSep_mono fun i _ => ?_
    have h : (b.view.loc (c : Thread nD τ) ↦[slotSet b i]{fullShare} f : sProp 𝕄) ⊢ free b c i := by
      unfold free; iintro H; iexists f; iexact H
    exact h
  iintro ⟨%f, H⟩
  iapply (h f); iexact H
/-- and the slots join to the buffer. -/
theorem join {b : Memref sig .tc .vmem S15x32x768 .bf16} (hb : Slotted b) (c : Dev nD) (f₀ : Buf (Elt F) (b.view.loc (c : Thread nD τ))) :
    (all (free b c) : sProp 𝕄) ⊢ iprop(∃ f : Buf (Elt F) (b.view.loc (c : Thread nD τ)), b.view.loc (c : Thread nD τ) ↦{fullShare} f) :=
  pointsTo_blocks_join_exists (ℓ := b.view.loc (c : Thread nD τ)) (slotSet b) hb.apart hb.cover f₀

/-- Some contents, to name a buffer's by. -/
def blank : FVec F S15x32x768 .bf16 := fun _ => FloatOps.ofBits .bf16 0

/-- The kernel's own buffers, whole, and slot by slot. -/
theorem scratch_of (c : Dev nD) : (Pipeline.scopedRest spec0 c : sProp 𝕄) ⊢ scratch c := by
  rw [scopedRest0_eq]; unfold scratch
  iintro ⟨Hs, Hr, Hd, Ha⟩
  isplitl [Hs]; · iapply (split slotted_s c); iexact Hs
  isplitl [Hr]; · iapply (split slotted_r c); iexact Hr
  isplitl [Hd]; · iexact Hd
  iapply (split slotted_a c); iexact Ha
theorem of_scratch (c : Dev nD) : (scratch c : sProp 𝕄) ⊢ Pipeline.scopedRest spec0 c := by
  rw [scopedRest0_eq]; unfold scratch
  iintro ⟨Hs, Hr, Hd, Ha⟩
  isplitl [Hs]; · iapply (join slotted_s c blank); iexact Hs
  isplitl [Hr]; · iapply (join slotted_r c blank); iexact Hr
  isplitl [Hd]; · iexact Hd
  iapply (join slotted_a c blank); iexact Ha

/-! ## Arrays of semaphores -/

theorem by_array (Φ : Fin 4 × Fin 15 → sProp 𝕄) : bigSep Finset.univ Φ
    = iprop(all (fun i => Φ (0, i)) ∗ all (fun i => Φ (1, i)) ∗ all (fun i => Φ (2, i)) ∗ all (fun i => Φ (3, i))) := by
  rw [bigSep_univ_prod]
  exact bigSep_univ_eq_bigSepL [(0 : Fin 4), 1, 2, 3] (by decide) (by decide) _

/-- The own counters at zero, array by array. -/
theorem ownSems_eq (c : Dev nD) : (Pipeline.ownSems0 osem c : sProp 𝕄)
    = iprop(all (fun i => semVal (ownC 0 i c) 0) ∗ all (fun i => semVal (ownC 1 i c) 0) ∗ all (fun i => semVal (ownC 2 i c) 0)
      ∗ all (fun i => semVal (ownC 3 i c) 0)) := by
  unfold Pipeline.ownSems0; exact by_array _

end Cert.Proof
-- ==== Proof.Region.lean ====
/-
  The kernel call as a segment of the program: what it finds in its windows, what it leaves there, and what passes between
  the devices.
-/
module

public import proofs.«01_k».proof.Proof.Slots
public import proofs.«01_k».proof.Proof.Gen.KernelIdeal.Regions
public import Idealize.ShloMosaic.Lib.Pipeline.RegionTalk
public import Idealize.ShloMosaic.Lib.Pipeline.ValueKit.Geometry
public import Idealize.ShloMosaic.Lib.Pipeline.FrameBody

@[expose] public section

set_option maxRecDepth 10000

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

attribute [local irreducible] out part

/-! ## What the call reads and leaves -/

def xV (c : Dev nD) : FVec F S512x768 .bf16 := V1 m c main_v17
def wqV (c : Dev nD) : FVec F S768x512 .bf16 := V1 m c main_arg1
def woV (c : Dev nD) : FVec F S512x768 .bf16 := V1 m c main_arg2
def wkV (c : Dev nD) : FVec F S768x128 .bf16 := V1 m c main_v10
def wvV (c : Dev nD) : FVec F S768x128 .bf16 := V1 m c main_v16
/-- Every device's partial product. -/
def parts (c : Dev nD) : FVec F S512x768 .f32 := part (xV m c) (wqV m c) (wkV m c) (wvV m c) (woV m c)

/-- What the call leaves in the result's array. -/
def outs : Outs (F := F) := fun _ r c => if h : r = main_v18 then h ▸ (out (parts m) c : Buf (Elt F) ((c : Thread nD τ).loc main_v18)) else m ((c : Thread nD τ).loc r)
theorem outs_eq (n : ℕ) (c : Dev nD) : outs m n main_v18 c = out (parts m) c := by unfold outs; exact dif_pos rfl

/-- What the body leaves in a window's staging buffer. -/
def left (c : Dev nD) : (w : Fin cfg0.W) → Fin cfg0.N → ((cfg0.win w).block.Idx → Elt F (cfg0.win w).elt)
  | 0, _ => xV m c
  | 1, _ => wqV m c
  | 2, _ => woV m c
  | 3, _ => wkV m c
  | 4, _ => wvV m c
  | 5, _ => out (parts m) c

/-! ## What passes through it -/

/-- A device's start: the schedule's records, its position at its barrier, its own semaphores unopened, tokens and credits. -/
def Tk (c : Dev nD) : sProp 𝕄 :=
  iprop((∃ K, records (parts m) K) ∗ atPos ER (barC c) 0 ∅ 0 ∗ (bigSep Finset.univ fun x : Fin 4 × Fin 15 => openTok ER (ownC x.1 x.2 c)) ∗ tokens c
    ∗ cred (tallyAt (barC c) () 15) ∗ all (fun i => cred (tallyAt (ownC 1 i c) () N)) ∗ all (fun i => cred (tallyAt (ownC 3 i c) () N)))
/-- The same with its semaphores opened. -/
def Xk (c : Dev nD) : sProp 𝕄 := iprop((∃ K, ctx (parts m) K c) ∗ tokens c ∗ waits c)
/-- What is left for the end: the barrier's counter. -/
def Yk (c : Dev nD) : sProp 𝕄 := semVal (barC c) 0

theorem opened_eq (c : Dev nD) :
    (bigSep Finset.univ fun x : Fin 4 × Fin 15 => iprop(atPos ER (ownC x.1 x.2 c) 0 ∅ 0 ∗ reached ER (ownC x.1 x.2 c) 0) : sProp 𝕄)
      = iprop((all (fun i => atPos ER (ownC 0 i c) 0 ∅ 0) ∗ all (fun i => atPos ER (ownC 1 i c) 0 ∅ 0) ∗ all (fun i => atPos ER (ownC 2 i c) 0 ∅ 0)
        ∗ all (fun i => atPos ER (ownC 3 i c) 0 ∅ 0)) ∗ bigSep Finset.univ fun x : Fin 4 × Fin 15 => reached ER (ownC x.1 x.2 c) 0) := by
  rw [bigSep_sep', by_array (fun x => atPos ER (ownC x.1 x.2 c) 0 ∅ 0)]

theorem opened (c : Dev nD) : iprop(Tk m c ∗ Pipeline.ownSems0 osem c ∗ levAts L lv) ⊢ (|={Set.univ}=> Xk m c : sProp 𝕄) := by
  have h (K : GSem nD τ sig → ℕ) : iprop(records (parts m) K ∗ (bigSep Finset.univ fun x : Fin 4 × Fin 15 => openTok ER (ownC x.1 x.2 c)) ∗ Pipeline.ownSems0 osem c)
      ⊢ (|={Set.univ}=> bigSep Finset.univ fun x : Fin 4 × Fin 15 => iprop(atPos ER (ownC x.1 x.2 c) 0 ∅ 0 ∗ reached ER (ownC x.1 x.2 c) 0) : sProp 𝕄) := by
    unfold Pipeline.ownSems0
    refine BI.Entails.trans ?_ (bigSep_fupd Finset.univ _)
    rw [← bigSep_sep']
    refine (bigSep_with_persistent (R := records (parts m) K) (Φ := _) fun x _ => ?_)
    obtain ⟨j, i⟩ := x
    have h : iprop(records (parts m) K ∗ openTok ER (ownC j i c) ∗ semVal (ownC j i c) 0)
        ⊢ (|={Set.univ}=> iprop(atPos ER (ownC j i c) 0 ∅ 0 ∗ reached ER (ownC j i c) 0) : sProp 𝕄) := by
      iintro ⟨#HR, Ho, Hs⟩
      iapply (Rounds.cell_open ER (Rd (parts m)) (g := ownC j i c) (Set.mem_univ (K (ownC j i c))))
      isplitr; · iapply (records_own (parts m) K j i c); iexact HR
      isplitl [Ho] <;> iassumption
    exact h
  unfold Tk Xk
  iintro ⟨⟨⟨%K, #HR⟩, Hb, Ho, Ht, Hc, Hc1, Hc3⟩, Hs, #HL⟩
  imod (h K) $$ [Ho Hs] with H
  · isplitr; · iexact HR
    isplitl [Ho] <;> iassumption
  ihave H' := (BIBase.Entails.of_eq (opened_eq c)) $$ H
  icases H' with ⟨⟨H0, H1, H2, H3⟩, #Hre⟩
  imodintro
  isplitr
  · iexists K; unfold ctx
    isplitr; · iexact HR
    isplitr <;> iassumption
  isplitl [Ht]; · iexact Ht
  unfold waits
  rw [all_pair, all_pair]
  isplitl [Hb Hc]; · isplitl [Hb] <;> iassumption
  isplitl [H0]; · iexact H0
  isplitl [H1 Hc1]; · isplitl [Hc1] <;> iassumption
  isplitl [H2]; · iexact H2
  isplitl [Hc3] <;> iassumption

/-! ## The proof data -/

/-- The device owes its units before the body and nothing after it. -/
def dat0 (c : Dev nD) : Dat τ (Elt F) Unit ℕ UU ℕ cfg0 c where
  A w := V1 m c (Proc.devRef .tc (Pipeline.arrRef spec0 w))
  after := left m c
  Φ t := if t.val = 0 then iprop(Xk m c ∗ scratch c ∗ ∃ r, prngReg c r) else iprop(zeros c ∗ scratch c ∗ ∃ r, prngReg c r)
  q _ := fullShare
  owed t := if t.val = 0 then O₀ c else 0

def pdats : (p : Fin 1) → (c : Dev nD) → Dat τ (Elt F) Unit ℕ UU ℕ (Pipeline.pin (pcfgs (F := F)) adm p) c
  | 0 => dat0 m

theorem owed_zero (c : Dev nD) : (dat0 (F := F) m c).owed 0 = O₀ c := by
  show (if ((0 : Fin (cfg0.N + 1)).val = 0) then O₀ c else 0) = O₀ c; exact if_pos rfl
theorem owed_first (c : Dev nD) : (dat0 (F := F) m c).owed t0_0.castSucc = O₀ c := by
  show (if (t0_0.castSucc : Fin (cfg0.N + 1)).val = 0 then O₀ c else 0) = O₀ c; exact if_pos rfl
theorem owed_last (c : Dev nD) : (dat0 (F := F) m c).owed (Fin.last _) = 0 := by
  show (if (Fin.last cfg0.N).val = 0 then O₀ c else 0) = 0
  rw [Fin.val_last, if_neg (by rw [show cfg0.N = 1 from N_0]; decide)]

/-! ## The windows: whole arrays -/

/-- A window on a whole array: its block's elements are the array's, in place. -/
theorem emb_whole (w : Pipeline.Window sig grid0) (h : ∀ a, w.index t0_0 a = 0) (j : (w.xblock (grid0.coords t0_0)).Idx) :
    ((w.rect t0_0).emb j) = fun a => ⟨(j a).val, by
      have := ((w.rect t0_0).emb j a).isLt
      rwa [Pipeline.Window.rect_emb_val_of_index_zero w t0_0 a (h a) j] at this⟩ := by
  funext a; exact Fin.ext (Pipeline.Window.rect_emb_val_of_index_zero w t0_0 a (h a) j)

theorem before_0 (c : Dev nD) (d) : (dat0 m c).before 0 t0_0 d = xV m c := by
  unfold Dat.before; rw [if_pos (fetch0_0 t0_0)]
  funext j
  show xV m c ((win0_0.blk t0_0).view.emb j) = xV m c j
  exact congrArg (xV m c) (emb_whole win0_0 (by decide) j)
theorem before_1 (c : Dev nD) (d) : (dat0 m c).before 1 t0_0 d = wqV m c := by
  unfold Dat.before; rw [if_pos (fetch0_1 t0_0)]
  funext j
  show wqV m c ((win0_1.blk t0_0).view.emb j) = wqV m c j
  exact congrArg (wqV m c) (emb_whole win0_1 (by decide) j)
theorem before_2 (c : Dev nD) (d) : (dat0 m c).before 2 t0_0 d = woV m c := by
  unfold Dat.before; rw [if_pos (fetch0_2 t0_0)]
  funext j
  show woV m c ((win0_2.blk t0_0).view.emb j) = woV m c j
  exact congrArg (woV m c) (emb_whole win0_2 (by decide) j)
theorem before_3 (c : Dev nD) (d) : (dat0 m c).before 3 t0_0 d = wkV m c := by
  unfold Dat.before; rw [if_pos (fetch0_3 t0_0)]
  funext j
  show wkV m c ((win0_3.blk t0_0).view.emb j) = wkV m c j
  exact congrArg (wkV m c) (emb_whole win0_3 (by decide) j)
theorem before_4 (c : Dev nD) (d) : (dat0 m c).before 4 t0_0 d = wvV m c := by
  unfold Dat.before; rw [if_pos (fetch0_4 t0_0)]
  funext j
  show wvV m c ((win0_4.blk t0_0).view.emb j) = wvV m c j
  exact congrArg (wvV m c) (emb_whole win0_4 (by decide) j)

/-! ## The body -/

theorem owesAt_of (c : Dev nD) (t : Fin (cfg0.N + 1)) (O : CellTallies nD τ sig Unit) (h : (dat0 (F := F) m c).owed t = O) :
    owing c O ⊢ ((dat0 m c).owesAt () t : sProp 𝕄) := by
  unfold owing Dat.owesAt Pipeline.owesWithin Dat.bound; rw [h, show (dat0 (F := F) m c).recorded t = Set.univ from rfl]
  iintro ⟨%W, HO⟩; iexists W; isplitr; · ipureintro; exact fun _ _ => Or.inl trivial
  iexact HO
theorem of_owesAt (c : Dev nD) (t : Fin (cfg0.N + 1)) (O : CellTallies nD τ sig Unit) (h : (dat0 (F := F) m c).owed t = O) :
    ((dat0 m c).owesAt () t : sProp 𝕄) ⊢ owing c O := by
  unfold owing Dat.owesAt Pipeline.owesWithin; rw [h]
  iintro ⟨%W, -, HO⟩; iexists W; iexact HO

/-- The staging buffers as the body finds them, -/
def found (c : Dev nD) : sProp 𝕄 :=
  iprop((∃ d, owns (c : Thread nD τ) xM fullShare ((dat0 m c).before 0 t0_0 d)) ∗ (∃ d, owns (c : Thread nD τ) wqM fullShare ((dat0 m c).before 1 t0_0 d))
    ∗ (∃ d, owns (c : Thread nD τ) woM fullShare ((dat0 m c).before 2 t0_0 d)) ∗ (∃ d, owns (c : Thread nD τ) wkM fullShare ((dat0 m c).before 3 t0_0 d))
    ∗ (∃ d, owns (c : Thread nD τ) wvM fullShare ((dat0 m c).before 4 t0_0 d)) ∗ (∃ d, owns (c : Thread nD τ) oM fullShare ((dat0 m c).before 5 t0_0 d)))
/-- and as it leaves them. -/
def leaving (c : Dev nD) : sProp 𝕄 :=
  iprop(owns (c : Thread nD τ) xM fullShare (xV m c) ∗ owns (c : Thread nD τ) wqM fullShare (wqV m c)
    ∗ owns (c : Thread nD τ) woM fullShare (woV m c) ∗ owns (c : Thread nD τ) wkM fullShare (wkV m c)
    ∗ owns (c : Thread nD τ) wvM fullShare (wvV m c) ∗ owns (c : Thread nD τ) oM fullShare (out (parts m) c))

theorem found_eq (c : Dev nD) : (found m c : sProp 𝕄) ⊢ iprop(inputs c (xV m c) (wqV m c) (woV m c) (wkV m c) (wvV m c) ∗ ∃ f, oPts c f) := by
  unfold found inputs
  simp only [before_0, before_1, before_2, before_3, before_4, owns_whole]
  iintro ⟨⟨%d0, H0⟩, ⟨%d1, H1⟩, ⟨%d2, H2⟩, ⟨%d3, H3⟩, ⟨%d4, H4⟩, ⟨%d5, H5⟩⟩
  isplitr [H5]
  · isplitl [H0]; · iexact H0
    isplitl [H1]; · iexact H1
    isplitl [H2]; · iexact H2
    isplitl [H3]; · iexact H3
    iexact H4
  iexists _; iexact H5

theorem leaving_eq (c : Dev nD) : iprop(inputs c (xV m c) (wqV m c) (woV m c) (wkV m c) (wvV m c) ∗ oPts c (out (parts m) c)) ⊢ (leaving m c : sProp 𝕄) := by
  unfold leaving inputs
  rw [owns_whole, owns_whole, owns_whole, owns_whole, owns_whole, owns_whole]
  iintro ⟨⟨H0, H1, H2, H3, H4⟩, H5⟩
  isplitl [H0]; · iexact H0
  isplitl [H1]; · iexact H1
  isplitl [H2]; · iexact H2
  isplitl [H3]; · iexact H3
  isplitl [H4]; · iexact H4
  iexact H5

theorem body_run (c : Dev nD) :
    iprop(iprop(Xk m c ∗ scratch c ∗ ∃ r, prngReg c r) ∗ (dat0 m c).owesAt () t0_0.castSucc ∗ found m c)
      ⊢ wp frame (wpE (defs₀ (F := F)) 𝒱₀ (c : Thread nD τ) none) Set.univ (bodyAt0 t0_0)
        fun _ => iprop(iprop(zeros c ∗ scratch c ∗ ∃ r, prngReg c r) ∗ (dat0 m c).owesAt () t0_0.succ ∗ leaving m c) := by
  unfold Xk
  rw [body_eq]
  iintro ⟨⟨⟨⟨%K, #HC⟩, Ht, Hw⟩, Hs, Hp⟩, HO, Hf⟩
  ihave HO := (of_owesAt m c _ (O₀ c) (owed_first m c)) $$ HO
  ihave Hf := (found_eq m c) $$ Hf
  icases Hf with ⟨Hin, ⟨%f, Hout⟩⟩
  rw [wp_deviceId]
  iapply (text_run (parts m) K c rfl f _)
  isplitr; · iexact HC
  isplitl [HO]; · iexact HO
  isplitl [Ht]; · iexact Ht
  isplitl [Hw]; · iexact Hw
  isplitl [Hs]; · iexact Hs
  isplitl [Hin]; · iexact Hin
  isplitl [Hout]; · iexact Hout
  iintro ⟨HO, Hs, Hz, Hin, Hout⟩
  isplitl [Hz Hs Hp]
  · isplitl [Hz]; · iexact Hz
    isplitl [Hs] <;> iassumption
  isplitl [HO]; · iapply (owesAt_of m c _ 0 (owed_last m c)); iexact HO
  iapply (leaving_eq m c)
  isplitl [Hin] <;> iassumption

set_option maxRecDepth 100000 in
theorem body_at (c : Dev nD) : BodyObligation (dat0 (F := F) m c) (defs₀ (F := F)) 𝒱₀ () Set.univ := fun t => by
  obtain rfl := fin_N0 t
  rw [bigSep_W0, bigSep_W0]
  have h1 : (dat0 m c).Φ t0_0.castSucc = iprop(Xk m c ∗ scratch c ∗ ∃ r, prngReg c r) := rfl
  have h2 : (dat0 m c).Φ t0_0.succ = iprop(zeros c ∗ scratch c ∗ ∃ r, prngReg c r) := rfl
  have h := body_run m c
  rw [h1, h2]
  unfold found leaving at h
  exact h

/-! ## The segment -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers no window names. -/
abbrev restRefs : Finset (DevRef τ sig) := Pipeline.ucRefs τ sig \ Pipeline.arrRefs spec0

theorem entered (c : Dev nD) : iprop(Pipeline.scopedRest (Pipeline.pin (pcfgs (F := F)) adm 0).spec c ∗ (∃ r, prngReg c r)
      ∗ StableHlo.held (c.tc : Thread nD τ) ∅ (V1 m c) ∗ Xk m c) ⊢ (pdats m 0 c).Φ 0 := by
  rw [show (pdats m 0 c).Φ 0 = iprop(Xk m c ∗ scratch c ∗ ∃ r, prngReg c r) from rfl]
  iintro ⟨Hs, Hp, -, HX⟩
  isplitl [HX]; · iexact HX
  isplitl [Hs]; · iapply (scratch_of c); iexact Hs
  iexact Hp

theorem exited (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ Yk c) := by
  rw [show (pdats m 0 c).Φ (Fin.last _) = iprop(zeros c ∗ scratch c ∗ ∃ r, prngReg c r) from rfl, ownSems_eq,
    show (StableHlo.held (c.tc : Thread nD τ) ∅ (V2 m (outs m) c) : sProp 𝕄) = iprop(emp) from BI.bigSep_empty]
  unfold zeros Yk
  iintro ⟨⟨Hb, H0⟩, Hs, Hp⟩
  isplitl [Hs]; · iapply (of_scratch c); iexact Hs
  isplitl [Hp]; · iexact Hp
  isplitr; · iempintro
  isplitl [H0] <;> iassumption

theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases pos_add h with h | h
    · obtain ⟨i, rfl⟩ := owedBar_pos h
      exact ⟨by rw [L_tc]; exact Finset.mem_singleton_self _, by rw [lv_bar]; decide⟩
    · rcases pos_add h with h | h <;> obtain ⟨i, rfl⟩ := owedTo_pos h
      · exact ⟨by rw [L_tc]; exact Finset.mem_singleton_self _, by rw [lv_own]; decide⟩
      · exact ⟨by rw [L_tc]; exact Finset.mem_singleton_self _, by rw [lv_own]; decide⟩
  · exact absurd h (Nat.lt_irrefl 0)

theorem arr_start (c : Dev nD) (w : Fin cfg0.W) : (dat0 m c).arrAt w 0 = V1 m c (Proc.devRef .tc (Pipeline.arrRef spec0 w)) := rfl

theorem V2_result (c : Dev nD) : V2 m (outs m) c main_v18 = out (parts m) c := (Function.update_self _ _ _).trans (outs_eq m 2 c)

theorem arr_out (c : Dev nD) : (dat0 m c).arrAt 5 cfg0.N = out (parts m) c := by
  have h : (dat0 m c).after 5 t0_0 = out (parts m) c := rfl
  generalize out (parts m) c = G at h ⊢
  refine (dat0 m c).arrAt_eq_of_after_last 5 t0_0 (by decide +kernel) G fun j => ?_
  rw [h]
  rfl

theorem arr_in (c : Dev nD) (w : Fin cfg0.W) (hw : w ≠ 5) :
    (dat0 m c).arrAt w cfg0.N = V2 m (outs m) c (Proc.devRef .tc (Pipeline.arrRef spec0 w)) :=
  (Dat.arrAt_in _ w (by revert w; decide) _).trans (V2_of m (outs m) c _ (by revert w; decide)).symm

theorem arr_end (c : Dev nD) (w : Fin cfg0.W) :
    (dat0 m c).arrAt w cfg0.N = V2 m (outs m) c (Proc.devRef .tc (Pipeline.arrRef spec0 w)) := by
  by_cases hw : w = 5
  · subst hw
    exact (arr_out m c).trans (V2_result m c).symm
  · exact arr_in m c w hw

theorem staging_level (w : Fin cfg0.W) (s : Fin (cfg0.win w).nbuf) : roleLevel (role (.dma ((cfg0.win w).sem s))) ≤ 0 := by
  revert s; revert w; decide

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ restRefs (Finset.empty_subset _) kit rfl (fun c => (body_at m c).loose)
    (fun _ => 0) O₀ (fun c => (owed_zero m c).trans (zero_add _).symm) (owed_last m) (fun _ => rfl)
    (fun c w => by show (if (cfg0.win w).isOut then fullShare else fullShare) = fullShare; split <;> rfl)
    (V1 m) (V2 m (outs m))
    (fun c b hb => by
      have hb' := (Finset.mem_sdiff.mp (Finset.mem_sdiff.mp hb).1).2
      refine Function.update_of_ne (fun h => hb' ?_) _ _
      subst h
      exact Finset.mem_map.mpr ⟨_, Finset.mem_image.mpr ⟨5, Finset.mem_univ _, rfl⟩, rfl⟩)
    (Tk m) Yk (Xk m) Yk (opened m) (entered m) (exited m)
    (fun c => by iintro H; imodintro; iexact H)
    (fun _ => 0)
    ⟨fun c w s => by rw [L_tc]; exact Finset.mem_singleton_self _,
      fun c w s => staging_level w s,
      owed_above m⟩
    (fun _ => iprop(emp))
    (arr_start m) (arr_end m)

end Cert.Proof
-- ==== Proof.Run.lean ====
/-
  The launch, which deals every device its cells, tokens and credits, and the run of the whole program.
-/
module

public import proofs.«01_k».proof.Proof.Region
public import Idealize.ShloMosaic.Lib.Quiescent

@[expose] public section

set_option maxRecDepth 10000

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

attribute [local irreducible] out part

/-! ## Cells and tokens -/

def barEmb : Dev nD ↪ GSem nD τ sig := ⟨fun c => barC c, fun _ _ h => congrArg (fun g : GSem nD τ sig => g.1.1) h⟩
def ownEmb : Dev nD × (Fin 4 × Fin 15) ↪ GSem nD τ sig :=
  ⟨fun x => ownC x.2.1 x.2.2 x.1, fun _ _ h =>
    Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

def barTokEmb : Dev nD × Fin 15 ↪ GSem nD τ sig × ℕ × Fin 15 :=
  ⟨fun x => (barC x.1, 0, x.2), fun _ _ h =>
    Prod.ext (congrArg (fun t : GSem nD τ sig × ℕ × Fin 15 => t.1.1.1) h) (congrArg (fun t : GSem nD τ sig × ℕ × Fin 15 => t.2.2) h)⟩
def ownTokEmb : Dev nD × (Fin 4 × Fin 15) ↪ GSem nD τ sig × ℕ × Fin 15 :=
  ⟨fun x => (ownEmb x, 0, 0), fun _ _ h => ownEmb.injective (congrArg Prod.fst h)⟩
abbrev barToks : Finset (GSem nD τ sig × ℕ × Fin 15) := Finset.univ.map barTokEmb
abbrev ownToks : Finset (GSem nD τ sig × ℕ × Fin 15) := Finset.univ.map ownTokEmb

theorem cells_disjoint : Disjoint barCells ownCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)
theorem toks_disjoint : Disjoint barToks ownToks := by
  rw [Finset.disjoint_left]
  rintro g h₁ h₂
  obtain ⟨c, -, rfl⟩ := Finset.mem_map.mp h₁
  obtain ⟨x, -, h⟩ := Finset.mem_map.mp h₂
  exact osem_ne_bar x.2 (congrArg (fun t : GSem nD τ sig × ℕ × Fin 15 => t.1.2) h)

theorem union_eq {J : Type} [DecidableEq J] {s t : Finset J} (h : Disjoint s t) (Φ : J → sProp 𝕄) :
    bigSep (s ∪ t) Φ = iprop(bigSep s Φ ∗ bigSep t Φ) := bigSep_union h

/-- The exchange's share of the launch's ghost state. -/
abbrev ghost : Rounds.URounds (GSem nD τ sig) (Fin 15) := launchOf barCells ownCells (barToks ∪ ownToks)
def u₀ : UU :=
  (initOf (Pipeline.cells (Pipeline.pin (pcfgs (F := F)) adm) cellOf_inj) (Pipeline.launchToks (Pipeline.pin (pcfgs (F := F)) adm) cellOf_inj), ghost)

/-- All of a resource, kept at device 0. -/
def atZero (X : sProp 𝕄) (c : Dev nD) : sProp 𝕄 := if c = 0 then X else iprop(emp)
theorem bigSep_atZero (X : sProp 𝕄) : bigSep Finset.univ (atZero X) = X := by
  rw [bigSep_univ_at _ (0 : Dev nD), bigSep_congr (s := Finset.univ.erase (0 : Dev nD)) (Ψ := fun _ => (BI.emp : sProp 𝕄))
    fun c hc => by unfold atZero; rw [if_neg (Finset.ne_of_mem_erase hc)]; rfl, BI.bigSep_emp_const]
  unfold atZero; rw [if_pos rfl]
  exact BI.equiv_iff.mp sep_emp

/-! ## Who gets which token -/

/-- A device and a step, seen from the other end. -/
def across : Dev nD × Fin 15 ≃ Dev nD × Fin 15 where
  toFun x := (peer x.1 x.2, x.2.rev)
  invFun x := (peer x.1 x.2, x.2.rev)
  left_inv x := Prod.ext (by show peer (peer x.1 x.2) x.2.rev = x.1; rw [peer_rev, src_peer]) (Fin.rev_rev _)
  right_inv x := Prod.ext (by show peer (peer x.1 x.2) x.2.rev = x.1; rw [peer_rev, src_peer]) (Fin.rev_rev _)
/-- A device's peer at a step, the step kept. -/
def onward : Dev nD × Fin 15 ≃ Dev nD × Fin 15 where
  toFun x := (peer x.1 x.2, x.2)
  invFun x := (src x.1 x.2, x.2)
  left_inv x := Prod.ext (src_peer _ _) rfl
  right_inv x := Prod.ext (peer_src _ _) rfl

theorem toks_bar : (bigSep barToks fun x => dutyTok ER x.1 x.2.1 x.2.2 : sProp 𝕄)
    = bigSep Finset.univ fun c : Dev nD => all fun i => dutyTok ER (barC (peer c i)) 0 i.rev := by
  rw [bigSep_map, bigSep_univ_equiv across, bigSep_univ_prod]; rfl

theorem moved (Φ : Dev nD → Fin 15 → sProp 𝕄) :
    (bigSep Finset.univ fun c : Dev nD => all (Φ c)) = bigSep Finset.univ fun c : Dev nD => all fun i => Φ (peer c i) i := by
  have h := bigSep_univ_prod (fun x : Dev nD × Fin 15 => Φ x.1 x.2)
  have h' := bigSep_univ_prod (fun x : Dev nD × Fin 15 => Φ (peer x.1 x.2) x.2)
  exact h.symm.trans ((bigSep_univ_equiv onward _).trans h')

theorem toks_own : (bigSep ownToks fun x => dutyTok ER x.1 x.2.1 x.2.2 : sProp 𝕄)
    = bigSep Finset.univ fun c : Dev nD => iprop(all (fun i => dutyTok ER (ownC 0 i c) 0 0) ∗ all (fun i => dutyTok ER (ownC 1 i (peer c i)) 0 0)
      ∗ all (fun i => dutyTok ER (ownC 2 i c) 0 0) ∗ all (fun i => dutyTok ER (ownC 3 i (peer c i)) 0 0)) := by
  rw [bigSep_map, bigSep_univ_prod, bigSep_sep', bigSep_sep', bigSep_sep', ← moved (fun c i => dutyTok ER (ownC 1 i c) 0 0),
    ← moved (fun c i => dutyTok ER (ownC 3 i c) 0 0), ← bigSep_sep', ← bigSep_sep', ← bigSep_sep']
  exact bigSep_congr fun c _ => by rw [by_array]; rfl

theorem toks_eq : (bigSep (barToks ∪ ownToks) fun x => dutyTok ER x.1 x.2.1 x.2.2 : sProp 𝕄) = bigSep Finset.univ fun c : Dev nD => tokens c := by
  rw [union_eq toks_disjoint, toks_bar, toks_own, ← bigSep_sep']; rfl

/-! ## Who gets which credit -/

/-- What the others send a device. -/
def due (c : Dev nD) : CellTallies nD τ sig Unit :=
  tallyAt (barC c) () 15 + (∑ i : Fin 15, tallyAt (ownC 1 i c) () N + ∑ i : Fin 15, tallyAt (ownC 3 i c) () N)

theorem sum_steps (f : Fin 15 → CellTallies nD τ sig Unit) : (steps.map f).sum = ∑ i, f i := by
  rw [← Fin.sum_ofFn]; rfl

theorem sum_onward (f : Dev nD → Fin 15 → CellTallies nD τ sig Unit) : (∑ d, ∑ i, f (peer d i) i) = ∑ d, ∑ i, f d i := by
  rw [← Fintype.sum_prod_type', ← Fintype.sum_prod_type']
  exact Equiv.sum_comp onward fun x => f x.1 x.2

theorem sum_fifteen (c : Dev nD) : (∑ i : Fin 15, tallyAt (barC c) () 1) = (tallyAt (barC c) () 15 : CellTallies nD τ sig Unit) := by
  simp only [Fin.sum_univ_succ, Fin.sum_univ_zero, add_zero, tallyAt_add]

theorem owed_eq : (∑ d : Dev nD, O₀ d) = ∑ c : Dev nD, due c := by
  unfold O₀ due owedBar owedTo
  simp only [sum_steps, Finset.sum_add_distrib]
  rw [sum_onward (fun c i => tallyAt (barC c) () 1), sum_onward (fun c i => tallyAt (ownC 1 i c) () N), sum_onward (fun c i => tallyAt (ownC 3 i c) () N)]
  simp only [sum_fifteen]

theorem due_own (d : Dev nD) (g : GSem nD τ sig) (h : due d g ≠ 0) : g.1 = (d : Thread nD τ) := by
  by_contra hg
  refine h ?_
  have z (sm : SemLoc sig) (n : ℕ) : (tallyAt ((d : Thread nD τ), sm) () n : CellTallies nD τ sig Unit) g = 0 :=
    tallyAt_ne_cell (fun e => hg (congrArg Prod.fst e)) _ _
  unfold due
  rw [Pi.add_apply, Pi.add_apply, Finset.sum_apply, Finset.sum_apply, z, Finset.sum_eq_zero fun i _ => z _ _, Finset.sum_eq_zero fun i _ => z _ _, add_zero, add_zero]

theorem cred_plus (A B : CellTallies nD τ sig Unit) : (cred (A + B) : sProp 𝕄) = iprop(cred A ∗ cred B) :=
  BI.Entails.antisymm (cred_add _ _).1 (cred_add _ _).2

theorem credits (c : Dev nD) : (Pipeline.launchCred O₀ c : sProp 𝕄)
    = iprop(cred (tallyAt (barC c) () 15) ∗ all (fun i => cred (tallyAt (ownC 1 i c) () N)) ∗ all (fun i => cred (tallyAt (ownC 3 i c) () N))) := by
  rw [Pipeline.launchCred_of_sum O₀ due owed_eq due_own c]
  unfold due
  rw [cred_plus, cred_plus, Pipeline.cred_finsetSum, Pipeline.cred_finsetSum]

/-! ## The launch -/

/-- What rides past the host's operations before the call, -/
def E₀ (c : Dev nD) : sProp 𝕄 := iprop((∃ r, prngReg c r) ∗ Tk m c ∗ owing c (O₀ c))
/-- and after it. -/
def E₁ (c : Dev nD) : sProp 𝕄 := iprop((∃ r, prngReg c r) ∗ Yk c ∗ owing c 0)
def E : Fin 2 → Dev nD → sProp 𝕄 := fun | 0 => E₀ m | 1 => E₁

theorem records_of (κ : GSem nD τ sig → ℕ) :
    iprop((bigSep (barCells ∪ ownCells) fun g => cellInv ER (Rd (parts m)) (κ g) g) ∗ bigSep barCells fun g => reached ER g 0)
      ⊢ (records (parts m) κ : sProp 𝕄) := by
  rw [union_eq cells_disjoint, bigSep_map, bigSep_map, bigSep_map]
  unfold records
  iintro ⟨⟨H1, H2⟩, H3⟩
  isplitl [H1]; · iexact H1
  isplitl [H2]; · iexact H2
  iexact H3

/-- A device's own part of the launch. -/
def dealt (c : Dev nD) : sProp 𝕄 :=
  iprop(((∃ r, prngReg c r) ∗ owing c (O₀ c) ∗ Pipeline.launchCred O₀ c) ∗ atPos ER (barC c) 0 ∅ 0
    ∗ (bigSep Finset.univ fun x : Fin 4 × Fin 15 => openTok ER (ownC x.1 x.2 c)) ∗ tokens c)

theorem dealt_eq : (bigSep Finset.univ fun c : Dev nD => (dealt c : sProp 𝕄))
    = iprop((bigSep Finset.univ fun c : Dev nD => iprop((∃ r, prngReg c r) ∗ owing c (O₀ c) ∗ Pipeline.launchCred O₀ c))
      ∗ (bigSep Finset.univ fun c : Dev nD => atPos ER (barC c) 0 ∅ 0)
      ∗ (bigSep Finset.univ fun c : Dev nD => bigSep Finset.univ fun x : Fin 4 × Fin 15 => openTok ER (ownC x.1 x.2 c))
      ∗ bigSep Finset.univ fun c : Dev nD => tokens c) := by
  unfold dealt
  simp only [bigSep_sep']

theorem E₀_of (κ : GSem nD τ sig → ℕ) (c : Dev nD) : iprop(records (parts m) κ ∗ dealt c) ⊢ (E₀ m c : sProp 𝕄) := by
  unfold dealt E₀ Tk
  rw [credits]
  iintro ⟨#HR, ⟨⟨Hp, HO, Hc⟩, Ha, Ho, Ht⟩⟩
  isplitl [Hp]; · iexact Hp
  isplitr [HO]
  · isplitr; · iexists κ; iexact HR
    isplitl [Ha]; · iexact Ha
    isplitl [Ho]; · iexact Ho
    isplitl [Ht] <;> iassumption
  iexact HO

theorem sems_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

theorem dealing : (iprop((bigSep Finset.univ fun c : Dev nD => iprop(unscopedSems0 c ∗ owes (c : Thread nD τ) (O₀ c) ∅ ∗ Pipeline.launchCred O₀ c
        ∗ prngReg c (ρ c) ∗ atZero (BI.own (ER ghost)) c)) ∗ levAts L lv) : sProp 𝕄)
      ⊢ (|={Set.univ}=> bigSep Finset.univ (E₀ m) : sProp 𝕄) := by
  have hsplit : (bigSep Finset.univ fun c : Dev nD => iprop(unscopedSems0 c ∗ owes (c : Thread nD τ) (O₀ c) ∅ ∗ Pipeline.launchCred O₀ c
        ∗ prngReg c (ρ c) ∗ atZero (BI.own (ER ghost)) c) : sProp 𝕄)
      ⊢ iprop((bigSep Finset.univ fun c : Dev nD => iprop((∃ r, prngReg c r) ∗ owing c (O₀ c) ∗ Pipeline.launchCred O₀ c))
        ∗ (bigSep barCells fun g => semVal g 0) ∗ BI.own (ER ghost)) := by
    rw [← bigSep_atZero (BI.own (ER ghost)), bigSep_map, ← bigSep_sep', ← bigSep_sep']
    refine bigSep_mono fun c _ => ?_
    rw [sems_eq, bigSep_atZero]
    unfold owing
    have h : (iprop(semVal (barC c) 0 ∗ owes (c : Thread nD τ) (O₀ c) ∅ ∗ Pipeline.launchCred O₀ c ∗ prngReg c (ρ c) ∗ atZero (BI.own (ER ghost)) c) : sProp 𝕄)
        ⊢ iprop(((∃ r, prngReg c r) ∗ (∃ W, owes (c : Thread nD τ) (O₀ c) W) ∗ Pipeline.launchCred O₀ c) ∗ semVal (barEmb c) 0
          ∗ atZero (BI.own (ER ghost)) c) := ?_
    · exact h
    iintro ⟨Hs, HO, Hc, Hp, Hg⟩
    isplitl [HO Hc Hp]
    · isplitl [Hp]; · iexists (ρ c); iexact Hp
      isplitl [HO]; · iexists ∅; iexact HO
      iexact Hc
    isplitl [Hs]; · iexact Hs
    iexact Hg
  have hpos : (bigSep barCells fun g => atPos ER g 0 ∅ 0 : sProp 𝕄) ⊢ bigSep Finset.univ fun c : Dev nD => atPos ER (barC c) 0 ∅ 0 :=
    BIBase.Entails.of_eq (bigSep_map _)
  have hopen : (bigSep ownCells fun g => openTok ER g : sProp 𝕄)
      ⊢ bigSep Finset.univ fun c : Dev nD => bigSep Finset.univ fun x : Fin 4 × Fin 15 => openTok ER (ownC x.1 x.2 c) :=
    BIBase.Entails.of_eq (by rw [bigSep_map, bigSep_univ_prod]; rfl)
  iintro ⟨H, -⟩
  ihave H := hsplit $$ H
  icases H with ⟨HB, Hv, Hu⟩
  imod (Rounds.fund_launch ER (Rd (parts m)) cells_disjoint (fun g _ h => h) (barToks ∪ ownToks)) $$ [Hv Hu] with ⟨%κ, -, #Hinv, #Hr, Hat, Hopen, Htok⟩
  · isplitl [Hv] <;> iassumption
  imodintro
  iapply (bigSep_with_persistent (R := records (parts m) κ) (Φ := fun c => dealt c) fun c _ => E₀_of m κ c)
  isplitr
  · iapply (records_of m κ)
    isplitr; · iexact Hinv
    iexact Hr
  iapply (BIBase.Entails.of_eq (dealt_eq (F := F)).symm)
  isplitl [HB]; · iexact HB
  isplitl [Hat]; · iapply hpos $$ Hat
  isplitl [Hopen]; · iapply hopen $$ Hopen
  iapply (BIBase.Entails.of_eq (toks_eq (F := F))) $$ Htok

/-! ## The call between the host's operations -/

abbrev bufs : Finset (DevRef τ sig) := Pipeline.ucRefs τ sig

theorem bufs_split (c : Dev nD) (V) : (StableHlo.held (c : Thread nD τ) bufs V : sProp 𝕄)
    = iprop(StableHlo.held (c : Thread nD τ) (Pipeline.arrRefs spec0) V ∗ StableHlo.held (c : Thread nD τ) restRefs V) :=
  StableHlo.held_sub_split (c : Thread nD τ) (Pipeline.arrRefs_sub_ucRefs spec0 (by decide)) V

theorem enter (c : Dev nD) : iprop(StableHlo.held (c : Thread nD τ) bufs (V1 m c) ∗ E₀ m c) ⊢ (reg m).pre c := by
  show _ ⊢ iprop(StableHlo.held (c.tc : Thread nD τ) (Pipeline.arrRefs spec0) (V1 m c) ∗ (∃ r, prngReg c r)
    ∗ (StableHlo.held (c.tc : Thread nD τ) restRefs (V1 m c) ∗ emp) ∗ Tk m c ∗ ∃ Wd, owes (c : Thread nD τ) (0 + O₀ c) Wd)
  rw [bufs_split, zero_add]
  unfold E₀ owing
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem leave (c : Dev nD) : (reg m).post c ⊢ iprop(StableHlo.held (c : Thread nD τ) bufs (V2 m (outs m) c) ∗ E₁ c) := by
  show iprop(StableHlo.held (c.tc : Thread nD τ) (Pipeline.arrRefs spec0) (V2 m (outs m) c) ∗ (∃ r, prngReg c r)
    ∗ (StableHlo.held (c.tc : Thread nD τ) restRefs (V2 m (outs m) c) ∗ emp) ∗ Yk c ∗ ∃ Wd, owes (c : Thread nD τ) 0 Wd) ⊢ _
  rw [bufs_split]
  unfold E₁ owing
  iintro ⟨Ha, Hp, ⟨Hr, -⟩, HY, HO⟩
  isplitl [Ha Hr]
  · isplitl [Ha] <;> iassumption
  isplitl [Hp]; · iexact Hp
  isplitl [HY] <;> iassumption

theorem finish (c : Dev nD) : iprop(StableHlo.held (c : Thread nD τ) bufs (V3 m (outs m) c) ∗ E₁ c)
    ⊢ (iprop((StableHlo.held (c : Thread nD τ) bufs (V3 m (outs m) c) ∗ semVal (barC c) 0) ∗ ∃ W, owes (c : Thread nD τ) (0 : CellTallies nD τ sig Unit) W) : sProp 𝕄) := by
  unfold E₁ owing Yk
  iintro ⟨Hh, -, HY, HO⟩
  isplitr [HO]
  · isplitl [Hh] <;> iassumption
  iexact HO

theorem starting : (iprop((bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ atZero (BI.own (ER ghost)) c)) ∗ levAts L lv) : sProp 𝕄)
      ⊢ |={Set.univ}=> bigSep Finset.univ fun c : Dev nD => iprop(StableHlo.held (c : Thread nD τ) bufs (V0 m c) ∗ E₀ m c) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ atZero (BI.own (ER ghost)) c) : sProp 𝕄)
      ⊢ iprop((bigSep Finset.univ fun c : Dev nD => StableHlo.held (c : Thread nD τ) bufs (V0 m c))
        ∗ bigSep Finset.univ fun c : Dev nD => iprop(unscopedSems0 c ∗ owes (c : Thread nD τ) (O₀ c) ∅ ∗ Pipeline.launchCred O₀ c
          ∗ prngReg c (ρ c) ∗ atZero (BI.own (ER ghost)) c)) := by
    rw [← bigSep_sep']
    exact bigSep_mono fun c _ => by
      rw [← Pipeline.unscopedBufs_held (Ix := Unit) (Name := ℕ) (U := UU) (Lvl := ℕ) c (V0 m c)]; exact BI.Entails.refl _
  iintro ⟨H, Hl⟩
  ihave H := hsplit $$ H
  icases H with ⟨Hh, Hr⟩
  imod (dealing m ρ) $$ [Hr Hl] with HE
  · isplitl [Hr] <;> iassumption
  imodintro
  rw [bigSep_sep']
  isplitl [Hh] <;> iassumption

theorem ending (c : Dev nD) (s' : Phys nD τ sig (Elt F)) :
    (iprop((StableHlo.held (c : Thread nD τ) bufs (V3 m (outs m) c) ∗ semVal (barC c) 0) ∗ SI s') : sProp 𝕄)
      ⊢ |={Set.univ}=> iprop(⌜(∀ b ∈ bufs, s'.mem.mem (c, b) = V3 m (outs m) c b) ∧ s'.mem.sem (barC c) = 0⌝ ∗ SI s') := by
  unfold StableHlo.held
  iintro ⟨⟨Hh, Hb⟩, HSI⟩
  icombine HSI Hb gives %hb
  ihave Hr := (pointsTo_read_all bufs (fun b => ((c : Thread nD τ).1, b)) (V3 m (outs m) c) s') $$ [Hh HSI]
  · isplitl [Hh] <;> iassumption
  icases Hr with ⟨%h, HSI⟩
  imodintro
  isplitr
  · ipureintro
    exact ⟨fun b hb => h b hb, by simpa using hb⟩
  iexact HSI

theorem only_bar : ∀ sm : SemLoc sig, sm.isScoped .tc = false → sm = .reg barS := by decide

set_option backward.isDefEq.respectTransparency.types false in
/-- The run: from any memory with its counters at zero every execution ends; every buffer outside the call's scratch then
    holds what the last valuation says, and every counter is back at zero. -/
theorem run_main : θ_run defs (onTc (τ := τ) (main (F := F))) ⟨m, fun _ => 0, ρ⟩ (fun r =>
    (∀ c : Dev nD, ∀ b ∈ bufs, r.2.mem (c, b) = V3 m (outs m) c b) ∧ r.2.sem = fun _ => 0) :=
  Pipeline.θ_run_regions_kit_dev_sems (pcfgs (F := F)) adm (pdats m) () cellOf_inj EP defs₀ 𝒱₀ L lv m ρ main
    (segs m (outs m) 𝒱₀ L lv (E m) () (pdats m) (reg m))
    (fun c Q => by
      rewrite [main_chain c, Pipeline.Seg.run_eq_chain,
        show (segs m (outs m) 𝒱₀ L lv (E m) () (pdats m) (reg m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    O₀ L_of_ne (atZero (BI.own (ER ghost))) u₀
    (by
      unfold u₀
      iintro Hu
      ihave H := (ownU_pair _ _) $$ Hu
      icases H with ⟨HP, HX⟩
      imodintro
      isplitl [HP]; · iexact HP
      rw [bigSep_atZero]; iexact HX)
    (T₀ := fun c => iprop(StableHlo.held (c : Thread nD τ) bufs (V0 m c) ∗ E₀ m c))
    (Tₙ := fun c => iprop(StableHlo.held (c : Thread nD τ) bufs (V3 m (outs m) c) ∗ semVal (barC c) 0))
    (hch := fun c => ⟨.rfl, enter m c, leave m c, finish m c⟩)
    (hinit := starting m ρ)
    (QY := fun c s => (∀ b ∈ bufs, s.mem (c, b) = V3 m (outs m) c b) ∧ s.sem (barC c) = 0)
    (hfin := fun c s' => ending m c s')
    (hQ := fun s h hs => ⟨fun c => (h c).1, sem_eq_zero hs fun c sm hsm => by
      obtain rfl := only_bar sm hsm
      exact (h c).2⟩)

end Cert.Proof
-- ==== Proof.Frames.lean ====
/-
  The frame claims: each program runs, its arguments are unchanged at the end, and every counter is back at zero.
  The kernel's two printings are one text, so its run, proved for any float values, serves both.
-/
module

public import proofs.«01_k».proof.Defs
public import proofs.«01_k».proof.Proof.Run
public import proofs.«01_k».proof.Proof.Gen.Kernel
public import proofs.«01_k».proof.Proof.Gen.ReferenceIdeal.Run

@[expose] public section

set_option maxRecDepth 10000

noncomputable section

namespace Cert.Proof

open Idealize.ShloMosaic Idealize.ShloMosaic.TcCoe Idealize.SL Idealize.SL.Sem
open Cert.KernelIdeal Cert.KernelIdeal.Gen

section

variable {F : FTy → Type} [FloatOps F] (m : (ℓ : Loc nD τ sig) → Buf (Elt F) ℓ) (ρ : Dev nD → PrngReg)

theorem mem_bufs (r : Ref sig .tc) (h : r.isScoped = false) : (Proc.devRef .tc r : DevRef τ sig) ∈ bufs :=
  Finset.mem_filter.mpr ⟨StableHlo.devRef_mem_tcRefs r, by simpa using h⟩

/-- The run, with the arguments and the result named. -/
theorem run_named : θ_run defs (onTc (τ := τ) (main (F := F))) ⟨m, fun _ => 0, ρ⟩ (fun r =>
    (∀ c : Dev nD, r.2.mem ((c.tc : Thread nD τ).loc main_v19) = V3 m (outs m) c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    ⟨h.1 c main_v19 (mem_bufs _ (by decide)),
      (h.1 c main_arg0 (mem_bufs _ (by decide))).trans (V3_main_arg0 m (outs m) c),
      (h.1 c main_arg1 (mem_bufs _ (by decide))).trans (V3_main_arg1 m (outs m) c),
      (h.1 c main_arg2 (mem_bufs _ (by decide))).trans (V3_main_arg2 m (outs m) c),
      (h.1 c main_arg3 (mem_bufs _ (by decide))).trans (V3_main_arg3 m (outs m) c),
      (h.1 c main_arg4 (mem_bufs _ (by decide))).trans (V3_main_arg4 m (outs m) c)⟩, h.2⟩) (run_main m ρ)

end

theorem frame_ideal : Cert.quiescent_KernelIdeal := fun m ρ _ =>
  (θ_run Cert.KernelIdeal.defs _ _).mono (fun _ h => ⟨fun c => (h.1 c).2, h.2⟩) (run_named (F := Ideal) m ρ)

/-! ## The kernel as printed -/

section

variable {F : FTy → Type} [FloatOps F]

set_option maxHeartbeats 2000000 in
set_option maxRecDepth 100000 in
theorem main_same : Cert.Kernel.main (F := F) = Cert.KernelIdeal.main (F := F) := rfl

set_option maxHeartbeats 2000000 in
set_option maxRecDepth 100000 in
theorem body_same : Cert.Kernel.cc0_body (F := F) = Cert.KernelIdeal.cc0_body (F := F) := rfl

theorem kernels_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => exact rfl
  | ⟨_ + 1, h⟩, _ => exact absurd h (Nat.not_lt.2 (Nat.le_add_left _ _))

theorem defs_same : Cert.Kernel.defs (F := F) = Cert.KernelIdeal.defs (F := F) :=
  congrArg (Pipeline.defs (Cert.Kernel.pcfgs (F := F))) kernels_same

end

theorem frame_kernel : Cert.quiescent_Kernel := fun m ρ _ => by
  rw [main_same, defs_same]
  exact (θ_run (Cert.KernelIdeal.defs (F := Bits)) _ _).mono (fun _ h => ⟨fun c => (h.1 c).2, h.2⟩) (run_named (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Attend.lean ====
/-
  Attention over the extended reals, in coordinates.

  One query row against 256 keys: the weights are the exponentials of the scores less their greatest, and the result
  is the weighted sum of the values over the sum of the weights. `headOf` is one row of one head from the rows of the
  input and the columns of the three projections. The kernel scales the queries and the reference the scores; by
  `scaled_scores` it is one value, without a condition on the inputs: the scale is a nonnegative real.
-/
module

public import Idealize.ShloMosaic.Lib.Pointwise

@[expose] public section

noncomputable section

namespace Cert.Proof

open Idealize.ShloMosaic

/-- The pattern of minus infinity is the least extended real. -/
theorem least : Ideal.ofBits .f32 0xFF800000#32 = ⊥ := by
  simp [Ideal.ofBits, Ideal.ieee]

/-- The scale of the scores. -/
def scale : EReal := Ideal.ofBits .f32 0x3E000000#32

theorem scale_real : scale = (((1 : ℝ) / 8 : ℝ) : EReal) := by
  simp [scale, Ideal.ofBits, Ideal.ieee, -EReal.coe_mul]; norm_num

theorem scale_nonneg : 0 ≤ scale := by
  rw [scale_real]
  exact EReal.coe_nonneg.mpr (by norm_num)

theorem scale_ne_top : scale ≠ ⊤ := by
  rw [scale_real]
  exact EReal.coe_ne_top _

/-- The scale goes into a sum. -/
theorem sum_scale {ι : Type} (s : Finset ι) (f : ι → EReal) : (∑ i ∈ s, f i) * scale = ∑ i ∈ s, f i * scale := by
  classical
  induction s using Finset.induction_on with
  | empty => simp
  | insert a s ha ih =>
    rw [Finset.sum_insert ha, Finset.sum_insert ha, EReal.right_distrib_of_nonneg_of_ne_top scale_nonneg scale_ne_top, ih]

/-- The greatest of a row of scores. -/
def best (s : Fin 256 → EReal) : EReal := Finset.univ.fold max (Ideal.ofBits .f32 0xFF800000#32) s

/-- The weight of key `j`. -/
def weight (s : Fin 256 → EReal) (j : Fin 256) : EReal := Ideal.exp (s j - best s)

/-- One row of attention: the weighted mean of the values. -/
def attend (s v : Fin 256 → EReal) : EReal := Ideal.div (∑ j, weight s j * v j) (∑ j, weight s j)

/-- A row of the input through a column of a projection. -/
def proj (x : Fin 768 → EReal) (w : Fin 768 → EReal) : EReal := ∑ e, x e * w e

/-- One row of one head, at one column of its values: `x` the 256 rows of the input, `q` and `k` the columns of the
    query's and the key's projections, `v` the column of the value's. -/
def headOf (x : Fin 256 → Fin 768 → EReal) (q k : Fin 64 → Fin 768 → EReal) (v : Fin 768 → EReal) (i : Fin 256) : EReal :=
  attend (fun j => (∑ d, proj (x i) (q d) * proj (x j) (k d)) * scale) fun j => proj (x j) v

/-- Scaled queries give scaled scores. -/
theorem scaled_scores (a b : Fin 64 → EReal) : ∑ d, a d * scale * b d = (∑ d, a d * b d) * scale := by
  rw [sum_scale]
  exact Finset.sum_congr rfl fun d _ => mul_right_comm _ _ _

end Cert.Proof
-- ==== Proof.Value.lean ====
/-
  A device's part of the result, read at an index.

  At the extended reals the roundings are the identity, so a device's part is a sum over its 512 columns of heads: each
  column is a row of attention (`headOf`) over the device's columns of the projections, times its row of the output
  matrix.
-/
module

public import proofs.«01_k».proof.Proof.Text
public import proofs.«01_k».proof.Proof.Attend

@[expose] public section

set_option maxRecDepth 16384

noncomputable section

namespace Cert.Proof

open Idealize.ShloMosaic Idealize.ShloMosaic.TcCoe
open Cert.KernelIdeal Cert.KernelIdeal.Gen

/-- The row of batch row `b`, position `i`. -/
def rowOf (b : Fin 2) (i : Fin 256) : Fin 512 := ⟨256 * b.val + i.val, by omega⟩

/-- The scores of one query row. -/
def scoreRow (q : FVec Ideal S512x512 .bf16) (k : FVec Ideal S512x128 .bf16) (b : Fin 2) (h : Fin 8) (i j : Fin 256) : EReal :=
  ∑ d : Fin 64, q (ix2 (rowOf b i) ⟨64 * h.val + d.val, by omega⟩) * k (ix2 (rowOf b j) ⟨64 * (h.val / 4) + d.val, by omega⟩)

theorem headP_at (q : FVec Ideal S512x512 .bf16) (k : FVec Ideal S512x128 .bf16) (b : Fin 2) (h : Fin 8) (i j : Fin 256) :
    headP q k b h (ix2 i j) = weight (scoreRow q k b h i) j := by
  pointwise [headP]
  rfl

theorem head_at (q : FVec Ideal S512x512 .bf16) (k v : FVec Ideal S512x128 .bf16) (b : Fin 2) (h : Fin 8) (i : Fin 256) (d : Fin 64) :
    head q k v b h (ix2 i d) =
      attend (scoreRow q k b h i) fun j => v (ix2 (rowOf b j) ⟨64 * (h.val / 4) + d.val, by omega⟩) := by
  pointwise [head]
  simp only [headP_at]
  rfl

theorem heads_at (q : FVec Ideal S512x512 .bf16) (k v : FVec Ideal S512x128 .bf16) (b : Fin 2) (i : Fin 256) (n : Fin 512) :
    heads q k v b (ix2 i n) = head q k v b ⟨n.val / 64, by omega⟩ (ix2 i ⟨n.val % 64, by omega⟩) := by
  have cut (h : Fin 8) (d d' : Fin 64) (e : Fin 8) (hh : h = e) (hd : d.val = d'.val) :
      head q k v b h (ix2 i d) = head q k v b e (ix2 i d') := by
    rw [hh, Fin.ext hd]
  pointwise [heads]
  split_ifs
  all_goals
    refine cut _ _ _ _ (Fin.ext ?_) ?_
    all_goals
      dsimp only
      omega

/-- The scaled queries of a device. -/
def scaledQ (x : FVec Ideal S512x768 .bf16) (wq : FVec Ideal S768x512 .bf16) : FVec Ideal S512x512 .bf16 :=
  truncf .bf16 (mulf (matmul dot_S512x768_S768x512_S512x512_1_0_0_1_n_n none (shapeCast S512x768 x shapeCasts_S512x768_S512x768)
      (shapeCast S768x512 wq shapeCasts_S768x512_S768x512) (constant S512x512 .f32 0x00000000#32))
      (broadcast S512x512 (Scalar.ofBits .f32 0x3E000000#32))) bitsLt_bf16_f32

/-- A device's keys, or its values. -/
def keysOf (x : FVec Ideal S512x768 .bf16) (w : FVec Ideal S768x128 .bf16) : FVec Ideal S512x128 .bf16 :=
  truncf .bf16 (matmul dot_S512x768_S768x128_S512x128_1_0_0_1_n_n none (shapeCast S512x768 x shapeCasts_S512x768_S512x768)
      (shapeCast S768x128 w shapeCasts_S768x128_S768x128) (constant S512x128 .f32 0x00000000#32)) bitsLt_bf16_f32

/-- Both batch rows' heads, one above the other. -/
def stacked (t u : FVec Ideal S256x512 .bf16) : FVec Ideal S512x512 .bf16 :=
  concatenate S512x512 0 [⟨S256x512, t⟩, ⟨S256x512, u⟩] concatenates_S256x512_S256x512_S512x512_d0

/-- The heads through the device's rows of the output matrix. -/
def through (a : FVec Ideal S512x512 .bf16) (wo : FVec Ideal S512x768 .bf16) : FVec Ideal S512x768 .f32 :=
  matmul dot_S512x512_S512x768_S512x768_1_0_0_1_n_n none a (shapeCast S512x768 wo shapeCasts_S512x768_S512x768)
    (constant S512x768 .f32 0x00000000#32)

theorem part_staged (x : FVec Ideal S512x768 .bf16) (wq : FVec Ideal S768x512 .bf16) (wk wv : FVec Ideal S768x128 .bf16)
    (wo : FVec Ideal S512x768 .bf16) :
    part x wq wk wv wo =
      through (stacked (heads (scaledQ x wq) (keysOf x wk) (keysOf x wv) 0) (heads (scaledQ x wq) (keysOf x wk) (keysOf x wv) 1)) wo :=
  rfl

theorem scaledQ_at (x : FVec Ideal S512x768 .bf16) (wq : FVec Ideal S768x512 .bf16) (r n : Fin 512) :
    scaledQ x wq (ix2 r n) = proj (fun e => x (ix2 r e)) (fun e => wq (ix2 e n)) * scale := by
  pointwise [scaledQ, proj, scale]

theorem keysOf_at (x : FVec Ideal S512x768 .bf16) (w : FVec Ideal S768x128 .bf16) (r : Fin 512) (n : Fin 128) :
    keysOf x w (ix2 r n) = proj (fun e => x (ix2 r e)) fun e => w (ix2 e n) := by
  pointwise [keysOf, proj]

theorem stacked_at (t : Fin 2 → FVec Ideal S256x512 .bf16) (b : Fin 2) (i : Fin 256) (n : Fin 512) :
    stacked (t 0) (t 1) (ix2 (rowOf b i) n) = t b (ix2 i n) := by
  pointwise [stacked]
  obtain ⟨b, hb⟩ := b
  obtain rfl | rfl : b = 0 ∨ b = 1 := by omega
  · rw [dif_pos (by simp only [rowOf]; omega)]
    exact congrArg (fun r => t 0 (ix2 r n)) (Fin.ext (by simp only [rowOf]; omega))
  · rw [dif_neg (by simp only [rowOf]; omega)]
    exact congrArg (fun r => t 1 (ix2 r n)) (Fin.ext (by simp only [rowOf]; omega))

theorem through_at (a : FVec Ideal S512x512 .bf16) (wo : FVec Ideal S512x768 .bf16) (r : Fin 512) (j : Fin 768) :
    through a wo (ix2 r j) = ∑ n : Fin 512, a (ix2 r n) * wo (ix2 n j) := by
  pointwise [through]

theorem scoreRow_at (x : FVec Ideal S512x768 .bf16) (wq : FVec Ideal S768x512 .bf16) (wk : FVec Ideal S768x128 .bf16)
    (b : Fin 2) (h : Fin 8) (i j : Fin 256) :
    scoreRow (scaledQ x wq) (keysOf x wk) b h i j =
      (∑ d : Fin 64, proj (fun e => x (ix2 (rowOf b i) e)) (fun e => wq (ix2 e ⟨64 * h.val + d.val, by omega⟩)) *
        proj (fun e => x (ix2 (rowOf b j) e)) fun e => wk (ix2 e ⟨64 * (h.val / 4) + d.val, by omega⟩)) * scale := by
  simp only [scoreRow, scaledQ_at, keysOf_at]
  exact scaled_scores _ _

/-- A device's part at an index. -/
theorem part_at (x : FVec Ideal S512x768 .bf16) (wq : FVec Ideal S768x512 .bf16) (wk wv : FVec Ideal S768x128 .bf16)
    (wo : FVec Ideal S512x768 .bf16) (b : Fin 2) (i : Fin 256) (j : Fin 768) :
    part x wq wk wv wo (ix2 (rowOf b i) j) =
      ∑ n : Fin 512, headOf (fun r e => x (ix2 (rowOf b r) e)) (fun d e => wq (ix2 e ⟨64 * (n.val / 64) + d.val, by omega⟩))
        (fun d e => wk (ix2 e ⟨64 * (n.val / 64 / 4) + d.val, by omega⟩))
        (fun e => wv (ix2 e ⟨64 * (n.val / 64 / 4) + n.val % 64, by omega⟩)) i * wo (ix2 n j) := by
  rw [part_staged, through_at]
  refine Finset.sum_congr rfl fun n _ => congrArg (· * wo (ix2 n j)) ?_
  refine (stacked_at (fun b => heads (scaledQ x wq) (keysOf x wk) (keysOf x wv) b) b i n).trans ?_
  rw [heads_at, head_at]
  simp only [keysOf_at]
  exact congrArg (attend · _) (funext fun j => scoreRow_at x wq wk b _ i j)

end Cert.Proof
-- ==== Proof.Exchange.lean ====
/-
  What the two exchanges leave, read at an index.

  At the extended reals the roundings on the way are the identity. The sum a device takes over its block of rows is then
  the sum of all devices' parts there, and after the gathering each device's result buffer is the sum of all devices'
  parts at every row.
-/
module

public import proofs.«01_k».proof.Proof.Protocol
public import Idealize.ShloMosaic.Lib.Pointwise
public import Idealize.ShloMosaic.Lib.WritesUnit

@[expose] public section

set_option maxRecDepth 16384

noncomputable section

namespace Cert.Proof

open Idealize.ShloMosaic Idealize.ShloMosaic.TcCoe
open Cert.KernelIdeal Cert.KernelIdeal.Gen

/-- Row `r` of the block of rows of device `o`. -/
def blockRow (o : Dev nD) (r : Fin 32) : Fin 512 := ⟨32 * o.val + r.val, by have : o.val < 16 := o.isLt; omega⟩

theorem give_off : ∀ (c : Dev nD) (i : Fin 15), k0_off1 c (BitVec.ofNat 32 (1 + i.val)) = ![32 * (peer c i).val, 0] := by
  decide +kernel
theorem take_off : ∀ (c : Dev nD) (i : Fin 15), k0_off3 c (BitVec.ofNat 32 (1 + i.val)) = ![32 * (src c i).val, 0] := by
  decide +kernel

/-- A load of a device's block of rows. -/
theorem rows_read {off : Fin 2 → ℕ} (inb : ∀ a, off a + S32x768.size a ≤ S512x768.size a) (o : Dev nD) (h : off = ![32 * o.val, 0])
    (f : FVec Ideal S512x768 .f32) (r : Fin 32) (j : Fin 768) :
    (oM.view.readAt (Elt Ideal) (Rect.unit (s := S512x768) off S32x768.size inb).toLoadRect f : FVec Ideal S32x768 .f32) (ix2 r j) =
      f (ix2 (blockRow o r) j) := by
  subst h
  refine congrArg f (funext fun a => Fin.ext ?_)
  match a with
  | ⟨0, _⟩ => show 32 * o.val + 1 * r.val = 32 * o.val + r.val; omega
  | ⟨1, _⟩ => show 0 + 1 * j.val = j.val; omega

/-- Where the store of a device's block of rows puts its elements. -/
theorem rows_emb {off : Fin 2 → ℕ} (inb : ∀ a, off a + S32x768.size a ≤ S512x768.size a) (o : Dev nD) (h : off = ![32 * o.val, 0])
    (r : Fin 32) (j : Fin 768) :
    (oM.access (Rect.unit (s := S512x768) off S32x768.size inb)).emb (ix2 r j) = ix2 (blockRow o r) j := by
  subst h
  refine funext fun a => Fin.ext ?_
  match a with
  | ⟨0, _⟩ => show 32 * o.val + 1 * r.val = 32 * o.val + r.val; omega
  | ⟨1, _⟩ => show 0 + 1 * j.val = j.val; omega

/-- A store of a device's block of rows, read in the block. -/
theorem rows_hit {off : Fin 2 → ℕ} (inb : ∀ a, off a + S32x768.size a ≤ S512x768.size a) (o : Dev nD) (h : off = ![32 * o.val, 0])
    (f : FVec Ideal S512x768 .f32) (w : FVec Ideal S32x768 .f32) (r : Fin 32) (j : Fin 768) :
    ((oM.access (Rect.unit (s := S512x768) off S32x768.size inb)).write (Elt Ideal) f w Finset.univ : FVec Ideal S512x768 .f32)
      (ix2 (blockRow o r) j) = w (ix2 r j) := by
  have e := View.write_emb_of_mem (v := oM.access (Rect.unit (s := S512x768) off S32x768.size inb)) (Val := Elt Ideal) f w
    (Finset.mem_univ (ix2 r j))
  rw [rows_emb inb o h r j] at e
  exact e

/-- The same, read outside the block. -/
theorem rows_miss {off : Fin 2 → ℕ} (inb : ∀ a, off a + S32x768.size a ≤ S512x768.size a) (o : Dev nD) (h : off = ![32 * o.val, 0])
    (f : FVec Ideal S512x768 .f32) (w : FVec Ideal S32x768 .f32) (o' : Dev nD) (hne : o ≠ o') (r : Fin 32) (j : Fin 768) :
    ((oM.access (Rect.unit (s := S512x768) off S32x768.size inb)).write (Elt Ideal) f w Finset.univ : FVec Ideal S512x768 .f32)
      (ix2 (blockRow o' r) j) = f (ix2 (blockRow o' r) j) := by
  refine View.write_of_not_mem (v := oM.access (Rect.unit (s := S512x768) off S32x768.size inb)) (Val := Elt Ideal) f w Finset.univ ?_
  intro hm
  obtain ⟨x, -, hx⟩ := Finset.mem_map.mp hm
  obtain ⟨r', j', rfl⟩ : ∃ (r' : Fin 32) (j' : Fin 768), x = ix2 r' j' := ⟨x 0, x 1, eq_ix2 x⟩
  have h0 := congrArg Fin.val (congrFun ((rows_emb inb o h r' j').symm.trans hx) 0)
  have h1 : 32 * o.val + r'.val = 32 * o'.val + r.val := h0
  exact hne (Fin.ext (by omega))

/-- A sent block, as it enters a sum. -/
theorem msg_at (P : Dev nD → FVec Ideal S512x768 .f32) (c : Dev nD) (i : Fin 15) (r : Fin 32) (j : Fin 768) :
    up (msg P (src c i) i) (ix2 r j) = P (src c i) (ix2 (blockRow c r) j) := by
  have h := rows_read (k0_off1_inb (src c i) i) (peer (src c i) i) (give_off _ _) (P (src c i)) r j
  rw [peer_src] at h
  pointwise [up, msg, toSlot]
  exact h

/-- The sum over the steps listed. -/
theorem accOver_at (P : Dev nD → FVec Ideal S512x768 .f32) (c : Dev nD) (r : Fin 32) (j : Fin 768) (l : List (Fin 15))
    (a : FVec Ideal S32x768 .f32) :
    accOver P c l a (ix2 r j) = a (ix2 r j) + (l.map fun i => P (src c i) (ix2 (blockRow c r) j)).sum := by
  induction l generalizing a with
  | nil => exact (add_zero (a (ix2 r j))).symm
  | cons i l ih =>
    refine (ih _).trans ?_
    rw [List.map_cons, List.sum_cons, ← add_assoc]
    exact congrArg (· + _) (congrArg (a (ix2 r j) + ·) (msg_at P c i r j))

/-- The other devices, by their steps. -/
theorem others : ∀ c : Dev nD, Finset.univ.erase c = Finset.univ.image (src c) := by decide +kernel
theorem src_injective : ∀ (c : Dev nD) (i i' : Fin 15), src c i = src c i' → i = i' := by decide +kernel

theorem sum_devices (g : Dev nD → EReal) (c : Dev nD) : g c + ∑ i : Fin 15, g (src c i) = ∑ o : Dev nD, g o := by
  rw [← Finset.add_sum_erase Finset.univ g (Finset.mem_univ c), others, Finset.sum_image fun i _ i' _ h => src_injective c i i' h]

/-- A device's sum over its block of rows is the sum of all devices' parts. -/
theorem acc_at (P : Dev nD → FVec Ideal S512x768 .f32) (c : Dev nD) (r : Fin 32) (j : Fin 768) :
    acc P c (ix2 r j) = ∑ o : Dev nD, P o (ix2 (blockRow c r) j) := by
  rw [acc, accOver_at, ← sum_devices (fun o => P o (ix2 (blockRow c r) j)) c]
  refine congrArg₂ (· + ·) ?_ ?_
  · have h := rows_read (k0_off2_inb c) c (k0_off2_eq c) (P c) r j
    pointwise
    exact h
  · exact (Fin.sum_univ_def _).symm

/-- A block sent around again, as it is stored. -/
theorem red_at (P : Dev nD → FVec Ideal S512x768 .f32) (c : Dev nD) (r : Fin 32) (j : Fin 768) :
    up (red P c) (ix2 r j) = acc P c (ix2 r j) := by
  pointwise [up, red, toRed]

theorem outOver_at (P : Dev nD → FVec Ideal S512x768 .f32) (c o : Dev nD) (r : Fin 32) (j : Fin 768) (l : List (Fin 15))
    (f : FVec Ideal S512x768 .f32)
    (h : f (ix2 (blockRow o r) j) = acc P o (ix2 r j) ∨ ∃ i ∈ l, src c i = o) :
    outOver P c l f (ix2 (blockRow o r) j) = acc P o (ix2 r j) := by
  induction l generalizing f with
  | nil => simpa [outOver] using h
  | cons i l ih =>
    refine ih _ ?_
    by_cases e : src c i = o
    · subst e
      exact .inl ((rows_hit (k0_off3_inb c i) _ (take_off c i) f _ r j).trans (red_at P _ r j))
    · obtain h | ⟨i', hi', h⟩ := h
      · exact .inl ((rows_miss (k0_off3_inb c i) _ (take_off c i) f _ o e r j).trans h)
      · obtain rfl | hi' := List.mem_cons.mp hi'
        · exact absurd h e
        · exact .inr ⟨i', hi', h⟩

theorem reached : ∀ c o : Dev nD, c = o ∨ ∃ i ∈ steps, src c i = o := by decide +kernel

/-- Every device's result, at any row of any block. -/
theorem out_block (P : Dev nD → FVec Ideal S512x768 .f32) (c o : Dev nD) (r : Fin 32) (j : Fin 768) :
    out P c (ix2 (blockRow o r) j) = ∑ d : Dev nD, P d (ix2 (blockRow o r) j) := by
  refine (outOver_at P c o r j steps _ ?_).trans (acc_at P o r j)
  refine (reached c o).imp ?_ id
  rintro rfl
  exact rows_hit (k0_off2_inb c) c (k0_off2_eq c) (P c) _ r j

/-- Every device's result is the sum of all devices' parts. -/
theorem out_at (P : Dev nD → FVec Ideal S512x768 .f32) (c : Dev nD) (r : Fin 512) (j : Fin 768) :
    out P c (ix2 r j) = ∑ d : Dev nD, P d (ix2 r j) := by
  have e : r = blockRow ⟨r.val / 32, by have := r.isLt; show _ < 16; omega⟩ ⟨r.val % 32, by omega⟩ :=
    Fin.ext (by show r.val = 32 * (r.val / 32) + r.val % 32; omega)
  rw [e]
  exact out_block P c _ _ j

end Cert.Proof
-- ==== Proof.Host.lean ====
/-
  What the host program hands the kernel, and takes from it, read at an index.

  The host reshapes the input's two leading axes into one, slices each device's columns of the two smaller projections
  out of the whole matrices, and reshapes the result back.
-/
module

public import proofs.«01_k».proof.Proof.Region
public import proofs.«01_k».proof.Proof.Value
public import proofs.«01_k».proof.Proof.Exchange
public import Idealize.ShloMosaic.Lib.DynamicIndex
public import Idealize.ShloMosaic.Lib.StableHlo.ReadAt

@[expose] public section

set_option maxRecDepth 16384

noncomputable section

namespace Cert.Proof

open Idealize.ShloMosaic Idealize.ShloMosaic.TcCoe Idealize.SL Idealize.SL.Sem
open Cert.KernelIdeal Cert.KernelIdeal.Gen

variable (m : (ℓ : Loc nD τ sig) → Buf (Elt Ideal) ℓ)

theorem xV_at (c : Dev nD) (b : Fin 2) (i : Fin 256) (e : Fin 768) :
    xV m c (ix2 (rowOf b i) e) = (m ((c.tc : Thread nD τ).loc main_arg0) : FVec Ideal S2x256x768 .bf16) (ix3 b i e) := by
  unfold xV V1
  after_reads_at
  refine congrArg₂ (fun b i => (m ((c.tc : Thread nD τ).loc main_arg0) : FVec Ideal S2x256x768 .bf16) (ix3 b i e)) (Fin.ext ?_) (Fin.ext ?_)
  · show (256 * b.val + i.val) / 256 = b.val
    omega
  · show (256 * b.val + i.val) % 256 = i.val
    omega

/-- The columns sliced out, once the slice's starts are known. -/
theorem columns_at (c : Dev nD) (x : FVec Ideal S768x2048 .bf16) (start : Fin 2 → ℤ) (h : S768x2048.Slices (fun _ => 0) S768x128)
    (h0 : start 0 = ((0 : ℕ) : ℤ)) (h1 : start 1 = ((128 * c.val : ℕ) : ℤ)) (e : Fin 768) (n : Fin 128) :
    Host.dynamicSlice S768x128 x start h (ix2 e n) = x (ix2 e ⟨128 * c.val + n.val, by have : c.val < 16 := c.isLt; omega⟩) := by
  have hc : c.val < 16 := c.isLt
  have hoff : S768x2048.Slices ![0, 128 * c.val] S768x128 :=
    ⟨rfl, Fin.forall_fin_two.mpr ⟨by show 0 + 768 ≤ 768; omega, by show 128 * c.val + 128 ≤ 2048; omega⟩⟩
  rw [Host.dynamicSlice_eq_extractStridedSlice S768x128 x start ![0, 128 * c.val] h hoff (Fin.forall_fin_two.mpr ⟨h0, h1⟩)]
  pointwise

/-! The starts of the two slices, as the words the host computes. -/

theorem startK_zero (c : Dev nD) :
    ((StableHlo.upto (hostOps0 (F := Ideal) c) (V0 m c) 16 (Proc.devRef .tc main_c_5) : IVec S_ 32) (Shape.Idx.first h_S_)).toInt
      = ((0 : ℕ) : ℤ) := by
  after_reads_at
  decide +kernel

theorem startK_val : ∀ c : Dev nD,
    ((StableHlo.upto (hostOps0 (F := Ideal) c) (V0 m c) 16 (Proc.devRef .tc main_v9) : IVec S_ 32) (Shape.Idx.first h_S_)).toInt
      = ((128 * c.val : ℕ) : ℤ) := by
  intro c
  after_reads_at
  revert c
  decide +kernel

theorem startV_zero (c : Dev nD) :
    ((StableHlo.upto (hostOps0 (F := Ideal) c) (V0 m c) 27 (Proc.devRef .tc main_c_10) : IVec S_ 32) (Shape.Idx.first h_S_)).toInt
      = ((0 : ℕ) : ℤ) := by
  after_reads_at
  decide +kernel

theorem startV_val : ∀ c : Dev nD,
    ((StableHlo.upto (hostOps0 (F := Ideal) c) (V0 m c) 27 (Proc.devRef .tc main_v15) : IVec S_ 32) (Shape.Idx.first h_S_)).toInt
      = ((128 * c.val : ℕ) : ℤ) := by
  intro c
  after_reads_at
  revert c
  decide +kernel

theorem wkV_at (c : Dev nD) (e : Fin 768) (n : Fin 128) :
    wkV m c (ix2 e n) = (m ((c.tc : Thread nD τ).loc main_arg3) : FVec Ideal S768x2048 .bf16)
      (ix2 e ⟨128 * c.val + n.val, by have : c.val < 16 := c.isLt; omega⟩) := by
  unfold wkV V1
  after_reads_simp
  refine columns_at c _ _ _ ?_ ?_ e n
  · exact startK_zero m c
  · exact startK_val m c

theorem wvV_at (c : Dev nD) (e : Fin 768) (n : Fin 128) :
    wvV m c (ix2 e n) = (m ((c.tc : Thread nD τ).loc main_arg4) : FVec Ideal S768x2048 .bf16)
      (ix2 e ⟨128 * c.val + n.val, by have : c.val < 16 := c.isLt; omega⟩) := by
  unfold wvV V1
  after_reads_simp
  refine columns_at c _ _ _ ?_ ?_ e n
  · exact startV_zero m c
  · exact startV_val m c

theorem wqV_eq (c : Dev nD) : wqV m c = m ((c.tc : Thread nD τ).loc main_arg1) :=
  V1_of m c main_arg1 (by decide)

theorem woV_eq (c : Dev nD) : woV m c = m ((c.tc : Thread nD τ).loc main_arg2) :=
  V1_of m c main_arg2 (by decide)

/-- The result, at an index: every device's part there, summed. -/
theorem kernel_at (c : Dev nD) (b : Fin 2) (i : Fin 256) (j : Fin 768) :
    (V3 m (outs m) c main_v19 : FVec Ideal S2x256x768 .f32) (ix3 b i j) = ∑ o : Dev nD, parts m o (ix2 (rowOf b i) j) := by
  rw [← out_at (parts m) c, ← V2_result m c]
  unfold V3
  after_reads_at
  exact congrArg (fun r => (V2 m (outs m) c main_v18 : FVec Ideal S512x768 .f32) (ix2 r j))
    (Fin.ext (by show b.val * 256 + i.val = 256 * b.val + i.val; omega))

end Cert.Proof
-- ==== Proof.Reference.lean ====
/-
  The reference read at an index.

  The reference's composed term is cut into stages, each a definition of the stage before, and each read at an index
  by a lemma. Its one pass over the keys starts from a running maximum of minus infinity and running sums of zero, so
  the rescaled old sums are zero and drop out.
-/
module

public import proofs.«01_k».proof.Proof.Gen.ReferenceIdeal.Run
public import proofs.«01_k».proof.Proof.Attend
public import Idealize.ShloMosaic.Lib.Tactic.CleanTypes

@[expose] public section

set_option maxRecDepth 16384

noncomputable section

namespace Cert.Proof.Reference

open Idealize.ShloMosaic Idealize.ShloMosaic.TcCoe
open Cert.ReferenceIdeal Cert.ReferenceIdeal.Gen

/-- The queries, by batch row, position, head and column. -/
def queries (x : FVec Ideal S2x256x768 .bf16) (w : FVec Ideal S768x8192 .bf16) : FVec Ideal S2x256x128x64 .f32 :=
  shapeCast _ (Host.dotGeneral dot_S2x256x768_S768x8192_S2x256x8192_2_0_01_1_n_n none
    (extf .f32 x bitsLt_bf16_f32) (extf .f32 w bitsLt_bf16_f32)) shapeCasts_S2x256x8192_S2x256x128x64

/-- The keys, or the values: each of the 32 heads is repeated four times. -/
def repeated (x : FVec Ideal S2x256x768 .bf16) (w : FVec Ideal S768x2048 .bf16) : FVec Ideal S2x256x128x64 .f32 :=
  shapeCast _ (broadcastInDim S2x256x32x4x64 ![0, 1, 2, 4] bcast_S2x256x32x64_S2x256x32x4x64_0_1_2_4
    (shapeCast _ (Host.dotGeneral dot_S2x256x768_S768x2048_S2x256x2048_2_0_01_1_n_n none
      (extf .f32 x bitsLt_bf16_f32) (extf .f32 w bitsLt_bf16_f32)) shapeCasts_S2x256x2048_S2x256x32x64))
    shapeCasts_S2x256x32x4x64_S2x256x128x64

/-- The scaled scores. -/
def scores (q k : FVec Ideal S2x256x128x64 .f32) : FVec Ideal S2x128x256x256 .f32 :=
  mulf (Host.dotGeneral dot_S2x256x128x64_S2x256x128x64_S2x128x256x256_3_3_1_1_02_02 none q k)
    (broadcastInDim S2x128x256x256 ![] bcast_S_S2x128x256x256 (constant S_ .f32 0x3E000000#32))

/-- Each row's greatest score. -/
def greatest (s : FVec Ideal S2x128x256x256 .f32) : FVec Ideal S2x128x256 .f32 :=
  Host.reduce FloatOps.maximumf s (constant S_ .f32 0xFF800000#32) reducesTo_S2x128x256x256_S2x128x256_d3 h_S_

/-- The running maximum after the only block of keys. -/
def running (g : FVec Ideal S2x128x256 .f32) : FVec Ideal S2x128x256x1 .f32 :=
  maximumf (broadcastInDim S2x128x256x1 ![] bcast_S_S2x128x256x1 (constant S_ .f32 0xFF800000#32))
    (broadcastInDim S2x128x256x1 ![0, 1, 2] bcast_S2x128x256_S2x128x256x1_0_1_2 g)

/-- The factor of the old sums. -/
def rescale (r : FVec Ideal S2x128x256x1 .f32) : FVec Ideal S2x128x256x1 .f32 :=
  Host.exp (subf (broadcastInDim S2x128x256x1 ![] bcast_S_S2x128x256x1 (constant S_ .f32 0xFF800000#32)) r)

/-- The weights. -/
def weights (s : FVec Ideal S2x128x256x256 .f32) (r : FVec Ideal S2x128x256x1 .f32) : FVec Ideal S2x128x256x256 .f32 :=
  Host.exp (subf s (broadcastInDim S2x128x256x256 ![0, 1, 2, 3] bcast_S2x128x256x1_S2x128x256x256_0_1_2_3 r))

/-- The sum of the weights. -/
def total (a : FVec Ideal S2x128x256x1 .f32) (p : FVec Ideal S2x128x256x256 .f32) : FVec Ideal S2x128x256x1 .f32 :=
  addf (mulf (broadcastInDim S2x128x256x1 ![] bcast_S_S2x128x256x1 (constant S_ .f32 0x00000000#32)) a)
    (broadcastInDim S2x128x256x1 ![0, 1, 2] bcast_S2x128x256_S2x128x256x1_0_1_2
      (Host.reduceAdd p (constant S_ .f32 0x00000000#32) reducesTo_S2x128x256x256_S2x128x256_d3 h_S_))

/-- The weighted sum of the values. -/
def mixed (a : FVec Ideal S2x128x256x1 .f32) (p : FVec Ideal S2x128x256x256 .f32) (v : FVec Ideal S2x256x128x64 .f32) :
    FVec Ideal S2x256x128x64 .f32 :=
  addf (mulf (broadcastInDim S2x256x128x64 ![] bcast_S_S2x256x128x64 (constant S_ .f32 0x00000000#32))
      (broadcastInDim S2x256x128x64 ![0, 1, 2, 3] bcast_S2x256x128x1_S2x256x128x64_0_1_2_3
        (transpose S2x256x128x1 [0, 2, 1, 3] a transposes_S2x128x256x1_S2x256x128x1_0_2_1_3)))
    (transpose S2x256x128x64 [0, 3, 1, 2]
      (Host.dotGeneral dot_S2x256x128x64_S2x128x256x256_S2x128x64x256_1_3_3_2_02_01 none v p)
      transposes_S2x128x64x256_S2x256x128x64_0_3_1_2)

/-- The heads' results. -/
def attended (o : FVec Ideal S2x256x128x64 .f32) (l : FVec Ideal S2x128x256x1 .f32) : FVec Ideal S2x256x128x64 .f32 :=
  Host.divf o (broadcastInDim S2x256x128x64 ![0, 1, 2, 3] bcast_S2x256x128x1_S2x256x128x64_0_1_2_3
    (transpose S2x256x128x1 [0, 2, 1, 3] l transposes_S2x128x256x1_S2x256x128x1_0_2_1_3))

/-- The heads' results through the output matrix. -/
def projected (o : FVec Ideal S2x256x128x64 .f32) (w : FVec Ideal S8192x768 .bf16) : FVec Ideal S2x256x768 .f32 :=
  Host.dotGeneral dot_S2x256x8192_S8192x768_S2x256x768_2_0_01_1_n_n none
    (shapeCast _ o shapeCasts_S2x256x128x64_S2x256x8192) (extf .f32 w bitsLt_bf16_f32)

/-- The heads' results of queries, keys and values. -/
def attention (q k v : FVec Ideal S2x256x128x64 .f32) : FVec Ideal S2x256x128x64 .f32 :=
  let s := scores q k
  let r := running (greatest s)
  let a := rescale r
  let p := weights s r
  attended (mixed a p v) (total a p)

/-- The reference's text is the stages in turn. -/
theorem staged (m : (ℓ : Loc nD τ sig) → Buf (Elt Ideal) ℓ) (c : Dev nD) :
    Cert.ReferenceIdeal.Value.res_main_v43 m c =
      projected (attention (queries (m ((c.tc : Thread nD τ).loc main_arg0)) (m ((c.tc : Thread nD τ).loc main_arg1)))
        (repeated (m ((c.tc : Thread nD τ).loc main_arg0)) (m ((c.tc : Thread nD τ).loc main_arg3)))
        (repeated (m ((c.tc : Thread nD τ).loc main_arg0)) (m ((c.tc : Thread nD τ).loc main_arg4))))
        (m ((c.tc : Thread nD τ).loc main_arg2)) := rfl

theorem queries_at (x : FVec Ideal S2x256x768 .bf16) (w : FVec Ideal S768x8192 .bf16) (b : Fin 2) (i : Fin 256) (h : Fin 128)
    (d : Fin 64) :
    queries x w (ix4 b i h d) = proj (fun e => x (ix3 b i e)) fun e => w (ix2 e ⟨h.val * 64 + d.val, by omega⟩) := by
  pointwise [queries, proj]

theorem repeated_at (x : FVec Ideal S2x256x768 .bf16) (w : FVec Ideal S768x2048 .bf16) (b : Fin 2) (i : Fin 256) (h : Fin 128)
    (d : Fin 64) :
    repeated x w (ix4 b i h d) = proj (fun e => x (ix3 b i e)) fun e => w (ix2 e ⟨h.val / 4 * 64 + d.val, by omega⟩) := by
  pointwise [repeated, proj]

theorem scores_at (q k : FVec Ideal S2x256x128x64 .f32) (b : Fin 2) (h : Fin 128) (i j : Fin 256) :
    scores q k (ix4 b h i j) = (∑ d : Fin 64, q (ix4 b i h d) * k (ix4 b j h d)) * scale := by
  pointwise [scores, scale]

/-- A maximum along the last of four axes, at any sizes. -/
theorem reduce_last {n0 n1 n2 n3 : Nat} {t u : Shape} (s : FVec Ideal ⟨4, ![n0, n1, n2, n3]⟩ .f32) (z : FVec Ideal u .f32)
    (h : (⟨4, ![n0, n1, n2, n3]⟩ : Shape).ReducesTo [3] t) (hu : 0 < u.numel) (j : t.Idx) :
    Host.reduce FloatOps.maximumf s z h hu j =
      (Finset.univ : Finset (Fin n3)).fold max (z (Shape.Idx.first hu)) fun k =>
        s (ix4 ⟨(j ⟨0, h.lt_r4_a3_0⟩).val, Shape.coordLt (j ⟨0, h.lt_r4_a3_0⟩) h.size_r4_a3_0⟩
          ⟨(j ⟨1, h.lt_r4_a3_1⟩).val, Shape.coordLt (j ⟨1, h.lt_r4_a3_1⟩) h.size_r4_a3_1⟩
          ⟨(j ⟨2, h.lt_r4_a3_2⟩).val, Shape.coordLt (j ⟨2, h.lt_r4_a3_2⟩) h.size_r4_a3_2⟩ k) := by
  rw [Host.reduce_eq_fold]
  exact h.fold_fiber_r4_a3 j max _ s

theorem greatest_at (s : FVec Ideal S2x128x256x256 .f32) (b : Fin 2) (h : Fin 128) (i : Fin 256) :
    greatest s (ix3 b h i) = best fun j => s (ix4 b h i j) :=
  reduce_last s _ _ _ _

theorem running_at (g : FVec Ideal S2x128x256 .f32) (b : Fin 2) (h : Fin 128) (i : Fin 256) :
    running g (ix4 b h i 0) = g (ix3 b h i) := by
  pointwise [running]
  rw [least, max_eq_right bot_le]

theorem weights_at (s : FVec Ideal S2x128x256x256 .f32) (r : FVec Ideal S2x128x256x1 .f32) (b : Fin 2) (h : Fin 128) (i j : Fin 256) :
    weights s r (ix4 b h i j) = Ideal.exp (s (ix4 b h i j) - r (ix4 b h i 0)) := by
  pointwise [weights]

theorem total_at (a : FVec Ideal S2x128x256x1 .f32) (p : FVec Ideal S2x128x256x256 .f32) (b : Fin 2) (h : Fin 128) (i : Fin 256) :
    total a p (ix4 b h i 0) = ∑ j, p (ix4 b h i j) := by
  pointwise [total]
  rw [zero_mul, zero_add]

theorem mixed_at (a : FVec Ideal S2x128x256x1 .f32) (p : FVec Ideal S2x128x256x256 .f32) (v : FVec Ideal S2x256x128x64 .f32)
    (b : Fin 2) (i : Fin 256) (h : Fin 128) (d : Fin 64) :
    mixed a p v (ix4 b i h d) = ∑ j, p (ix4 b h i j) * v (ix4 b j h d) := by
  pointwise [mixed]
  rw [zero_mul, zero_add]
  exact Finset.sum_congr rfl fun j _ => mul_comm _ _

theorem attended_at (o : FVec Ideal S2x256x128x64 .f32) (l : FVec Ideal S2x128x256x1 .f32) (b : Fin 2) (i : Fin 256) (h : Fin 128)
    (d : Fin 64) : attended o l (ix4 b i h d) = Ideal.div (o (ix4 b i h d)) (l (ix4 b h i 0)) := by
  pointwise [attended]

theorem projected_at (o : FVec Ideal S2x256x128x64 .f32) (w : FVec Ideal S8192x768 .bf16) (b : Fin 2) (i : Fin 256) (j : Fin 768) :
    projected o w (ix3 b i j) = ∑ n : Fin 8192, o (ix4 b i ⟨n.val / 64, by omega⟩ ⟨n.val % 64, by omega⟩) * w (ix2 n j) := by
  pointwise [projected]

theorem attention_at (q k v : FVec Ideal S2x256x128x64 .f32) (b : Fin 2) (i : Fin 256) (h : Fin 128) (d : Fin 64) :
    attention q k v (ix4 b i h d) =
      attend (fun j => (∑ e : Fin 64, q (ix4 b i h e) * k (ix4 b j h e)) * scale) fun j => v (ix4 b j h d) := by
  simp only [attention, attended_at, mixed_at, total_at, weights_at, running_at, greatest_at, scores_at]
  rfl

/-- The reference's result at an index: the heads' columns, each through its row of the output matrix. -/
theorem result_at (m : (ℓ : Loc nD τ sig) → Buf (Elt Ideal) ℓ) (c : Dev nD) (x : FVec Ideal S2x256x768 .bf16)
    (wq : FVec Ideal S768x8192 .bf16) (wo : FVec Ideal S8192x768 .bf16) (wk wv : FVec Ideal S768x2048 .bf16)
    (hx : m ((c.tc : Thread nD τ).loc main_arg0) = x) (hq : m ((c.tc : Thread nD τ).loc main_arg1) = wq)
    (ho : m ((c.tc : Thread nD τ).loc main_arg2) = wo) (hk : m ((c.tc : Thread nD τ).loc main_arg3) = wk)
    (hv : m ((c.tc : Thread nD τ).loc main_arg4) = wv) (b : Fin 2) (i : Fin 256) (j : Fin 768) :
    (Cert.ReferenceIdeal.Value.res_main_v43 m c : FVec Ideal S2x256x768 .f32) (ix3 b i j) =
      ∑ n : Fin 8192, headOf (fun r e => x (ix3 b r e)) (fun d e => wq (ix2 e ⟨n.val / 64 * 64 + d.val, by omega⟩))
        (fun d e => wk (ix2 e ⟨n.val / 64 / 4 * 64 + d.val, by omega⟩))
        (fun e => wv (ix2 e ⟨n.val / 64 / 4 * 64 + n.val % 64, by omega⟩)) i * wo (ix2 n j) := by
  rw [staged, hx, hq, ho, hk, hv, projected_at]
  simp only [attention_at, queries_at, repeated_at]
  rfl

end Cert.Proof.Reference
-- ==== Proof.Algebraic.lean ====
/-
  The value claim: every device's result is the reference's, at the extended reals, whatever the arguments.

  The reference's 8192 columns of heads are sixteen runs of 512, and run `o` is what device `o` adds: its block of the
  query's matrix holds the run's columns, its block of the output matrix the run's rows, and its slices of the key's and
  the value's matrices hold the two heads that the run's eight heads share.
-/
module

public import proofs.«01_k».proof.Proof.Frames
public import proofs.«01_k».proof.Proof.Host
public import proofs.«01_k».proof.Proof.Reference

@[expose] public section

set_option maxRecDepth 16384

noncomputable section

namespace Cert.Proof

open Idealize.ShloMosaic Idealize.ShloMosaic.TcCoe Idealize.SL Idealize.SL.Sem
open Cert.KernelIdeal Cert.KernelIdeal.Gen

/-- A column of one device's heads among all the heads' columns. -/
def column (o : Fin 16) (n : Fin 512) : Fin 8192 := ⟨512 * o.val + n.val, by omega⟩

/-- A sum over all the columns, device by device. -/
theorem sum_columns (f : Fin 8192 → EReal) : ∑ n, f n = ∑ o : Fin 16, ∑ n : Fin 512, f (column o n) := by
  rw [← (finProdFinEquiv : Fin 16 × Fin 512 ≃ Fin 8192).sum_comp, Fintype.sum_prod_type]
  exact Finset.sum_congr rfl fun o _ => Finset.sum_congr rfl fun n _ => congrArg f (Fin.ext (Nat.add_comm _ _))

/-- A block of columns. -/
theorem block_columns (w : FVec Ideal ⟨2, ![768, 8192]⟩ .bf16) (o : Fin 16) (e : Fin 768) (n : Fin 512) :
    (Layout.block ⟨2, ![768, 512]⟩ ⟨2, ![768, 8192]⟩ 1 16 o w : FVec Ideal S768x512 .bf16) (ix2 e n) = w (ix2 e (column o n)) := by
  refine congrArg w (funext fun a => Fin.ext ?_)
  match a with
  | ⟨0, _⟩ => rfl
  | ⟨1, _⟩ => show o.val * 512 + n.val = 512 * o.val + n.val; omega

/-- A block of rows. -/
theorem block_rows (w : FVec Ideal ⟨2, ![8192, 768]⟩ .bf16) (o : Fin 16) (n : Fin 512) (j : Fin 768) :
    (Layout.block ⟨2, ![512, 768]⟩ ⟨2, ![8192, 768]⟩ 0 16 o w : FVec Ideal S512x768 .bf16) (ix2 n j) = w (ix2 (column o n) j) := by
  refine congrArg w (funext fun a => Fin.ext ?_)
  match a with
  | ⟨0, _⟩ => show o.val * 512 + n.val = 512 * o.val + n.val; omega
  | ⟨1, _⟩ => rfl

section

variable (m : (ℓ : Loc nD τ sig) → Buf (Elt Ideal) ℓ) (x : FVec Ideal S2x256x768 .bf16)
  (wq : FVec Ideal ⟨2, ![768, 8192]⟩ .bf16) (wo : FVec Ideal ⟨2, ![8192, 768]⟩ .bf16) (wk wv : FVec Ideal S768x2048 .bf16)

/-- What one column of the heads adds to one element of the result. -/
def columnTerm (b : Fin 2) (i : Fin 256) (j : Fin 768) (n : Fin 8192) : EReal :=
  headOf (fun r e => x (ix3 b r e)) (fun d e => wq (ix2 e ⟨n.val / 64 * 64 + d.val, by omega⟩))
    (fun d e => wk (ix2 e ⟨n.val / 64 / 4 * 64 + d.val, by omega⟩))
    (fun e => wv (ix2 e ⟨n.val / 64 / 4 * 64 + n.val % 64, by omega⟩)) i * wo (ix2 n j)

/-- What one device adds: its own columns' terms, of the whole arrays. -/
theorem parts_at (o : Dev nD) (hx : m ((o.tc : Thread nD τ).loc main_arg0) = x)
    (hq : m ((o.tc : Thread nD τ).loc main_arg1) = Layout.block ⟨2, ![768, 512]⟩ ⟨2, ![768, 8192]⟩ 1 16 o wq)
    (ho : m ((o.tc : Thread nD τ).loc main_arg2) = Layout.block ⟨2, ![512, 768]⟩ ⟨2, ![8192, 768]⟩ 0 16 o wo)
    (hk : m ((o.tc : Thread nD τ).loc main_arg3) = wk) (hv : m ((o.tc : Thread nD τ).loc main_arg4) = wv)
    (b : Fin 2) (i : Fin 256) (j : Fin 768) :
    parts m o (ix2 (rowOf b i) j) = ∑ n : Fin 512, columnTerm x wq wo wk wv b i j (column o n) := by
  refine (part_at _ _ _ _ _ b i j).trans ?_
  refine Finset.sum_congr rfl fun n _ => ?_
  rw [wqV_eq, woV_eq, hq, ho, block_rows]
  simp only [xV_at, wkV_at, wvV_at, hx, hk, hv, block_columns]
  have hval : (column o n).val = 512 * o.val + n.val := rfl
  unfold columnTerm
  refine congrArg (· * wo (ix2 (column o n) j)) ?_
  congr 1
  · funext d e
    exact congrArg (fun k => wq (ix2 e k)) (Fin.ext (by
      show 512 * o.val + (64 * (n.val / 64) + d.val) = (column o n).val / 64 * 64 + d.val
      omega))
  · funext d e
    exact congrArg (fun k => wk (ix2 e k)) (Fin.ext (by
      show 128 * o.val + (64 * (n.val / 64 / 4) + d.val) = (column o n).val / 64 / 4 * 64 + d.val
      omega))
  · funext e
    exact congrArg (fun k => wv (ix2 e k)) (Fin.ext (by
      show 128 * o.val + (64 * (n.val / 64 / 4) + n.val % 64) = (column o n).val / 64 / 4 * 64 + (column o n).val % 64
      omega))

end

/-- Every device's result is the reference's. -/
theorem results (m : (ℓ : Loc nD τ sig) → Buf (Elt Ideal) ℓ)
    (m' : (ℓ : Loc Cert.ReferenceIdeal.nD Cert.ReferenceIdeal.τ Cert.ReferenceIdeal.sig) → Buf (Elt Ideal) ℓ)
    (x : FVec Ideal S2x256x768 .bf16) (wq : FVec Ideal ⟨2, ![768, 8192]⟩ .bf16) (wo : FVec Ideal ⟨2, ![8192, 768]⟩ .bf16)
    (wk wv : FVec Ideal S768x2048 .bf16)
    (hx' : m' (((0 : Dev Cert.ReferenceIdeal.nD).tc : Thread Cert.ReferenceIdeal.nD Cert.ReferenceIdeal.τ).loc Cert.ReferenceIdeal.main_arg0) = x)
    (hq' : m' (((0 : Dev Cert.ReferenceIdeal.nD).tc : Thread Cert.ReferenceIdeal.nD Cert.ReferenceIdeal.τ).loc Cert.ReferenceIdeal.main_arg1) = wq)
    (ho' : m' (((0 : Dev Cert.ReferenceIdeal.nD).tc : Thread Cert.ReferenceIdeal.nD Cert.ReferenceIdeal.τ).loc Cert.ReferenceIdeal.main_arg2) = wo)
    (hk' : m' (((0 : Dev Cert.ReferenceIdeal.nD).tc : Thread Cert.ReferenceIdeal.nD Cert.ReferenceIdeal.τ).loc Cert.ReferenceIdeal.main_arg3) = wk)
    (hv' : m' (((0 : Dev Cert.ReferenceIdeal.nD).tc : Thread Cert.ReferenceIdeal.nD Cert.ReferenceIdeal.τ).loc Cert.ReferenceIdeal.main_arg4) = wv)
    (hm : ∀ o : Dev nD, m ((o.tc : Thread nD τ).loc main_arg0) = x
      ∧ m ((o.tc : Thread nD τ).loc main_arg1) = Layout.block ⟨2, ![768, 512]⟩ ⟨2, ![768, 8192]⟩ 1 16 o wq
      ∧ m ((o.tc : Thread nD τ).loc main_arg2) = Layout.block ⟨2, ![512, 768]⟩ ⟨2, ![8192, 768]⟩ 0 16 o wo
      ∧ m ((o.tc : Thread nD τ).loc main_arg3) = wk ∧ m ((o.tc : Thread nD τ).loc main_arg4) = wv) (c : Dev nD) :
    (V3 m (outs m) c main_v19 : FVec Ideal S2x256x768 .f32) = Cert.ReferenceIdeal.Value.res_main_v43 m' 0 := by
  funext y
  obtain ⟨b, i, j, rfl⟩ : ∃ (b : Fin 2) (i : Fin 256) (j : Fin 768), y = ix3 b i j := ⟨y 0, y 1, y 2, eq_ix3 y⟩
  have e : (∑ o : Dev nD, parts m o (ix2 (rowOf b i) j) : EReal) =
      ∑ o : Fin 16, ∑ n : Fin 512, columnTerm x wq wo wk wv b i j (column o n) :=
    Finset.sum_congr rfl fun o _ =>
      parts_at m x wq wo wk wv o (hm o).1 (hm o).2.1 (hm o).2.2.1 (hm o).2.2.2.1 (hm o).2.2.2.2 b i j
  exact (kernel_at m c b i j).trans ((e.trans (sum_columns (columnTerm x wq wo wk wv b i j)).symm).trans
    (Reference.result_at m' 0 x wq wo wk wv hx' hq' ho' hk' hv' b i j).symm)

/-- The two programs compute one function over the extended reals. -/
theorem algebraic : Cert.algebraic_KernelIdeal_ReferenceIdeal := fun m g m' g' _ hm =>
  ⟨Cert.ReferenceIdeal.Value.res_main_v43 m' 0,
    (θ_run Cert.KernelIdeal.defs _ _).mono
      (fun _ h c => ⟨((h.1 c).1).trans (results m m' _ _ _ _ _ rfl rfl rfl rfl rfl hm c), (h.1 c).2⟩) (run_named (F := Ideal) m g),
    (θ_run Cert.ReferenceIdeal.defs _ _).mono (fun _ h => h 0) (Cert.ReferenceIdeal.Value.run (F := Ideal) m' g')⟩

end Cert.Proof
-- ==== Proof.lean ====
/-
  The proof of the claims: the kernel's frame in both printings, the reference's, and that over the extended reals every
  device's result is the reference's.
-/
module

public import proofs.«01_k».proof.Defs
public import proofs.«01_k».proof.Proof.Gen.ReferenceIdeal.Run
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
